-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_range [hPre_finite_range : Cert.Pre_finite_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_range [hPre_finite_range : Cert.Pre_finite_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_range [hKernelIdeal : Cert.KernelIdeal.Facts] [hPre_finite_range : Cert.Pre_finite_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_range [hReferenceIdeal : Cert.ReferenceIdeal.Facts] [hPre_finite_range : Cert.Pre_finite_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_range [hKernelIdeal : Cert.KernelIdeal.Facts] [hReferenceIdeal : Cert.ReferenceIdeal.Facts] [hPre_finite_range : Cert.Pre_finite_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42_0) = v0 c
          ∧ r.2.mem ((c.tc : Thread Cert.ReferenceIdeal.nD Cert.ReferenceIdeal.τ).loc Cert.ReferenceIdeal.main_v42_1) = v1 c
          ∧ r.2.mem ((c.tc : Thread Cert.ReferenceIdeal.nD Cert.ReferenceIdeal.τ).loc Cert.ReferenceIdeal.main_v42_2) = v2 c
          ∧ r.2.mem ((c.tc : Thread Cert.ReferenceIdeal.nD Cert.ReferenceIdeal.τ).loc Cert.ReferenceIdeal.main_v42_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_range : Cert.Pre_finite_range.Facts),
    quiescent_Kernel (hKernel := hKernel)
    ∧ quiescent_KernelIdeal (hKernelIdeal := hKernelIdeal)
    ∧ quiescent_KernelIdeal_pre_finite_range (hKernelIdeal := hKernelIdeal) (hPre_finite_range := hPre_finite_range)
    ∧ quiescent_ReferenceIdeal (hReferenceIdeal := hReferenceIdeal)
    ∧ quiescent_ReferenceIdeal_pre_finite_range (hReferenceIdeal := hReferenceIdeal) (hPre_finite_range := hPre_finite_range)
    ∧ preserves_Kernel_KernelIdeal
    ∧ algebraic_KernelIdeal_ReferenceIdeal_pre_finite_range (hKernelIdeal := hKernelIdeal) (hReferenceIdeal := hReferenceIdeal) (hPre_finite_range := hPre_finite_range)
-- ==== Pre_finite_range.lean ====
abbrev S4x6144x4096 : Shape := ⟨3, ![4, 6144, 4096]⟩
abbrev S16 : Shape := ⟨1, ![16]⟩
abbrev S4x4096x6144 : Shape := ⟨3, ![4, 4096, 6144]⟩
abbrev S_ : Shape := ⟨0, ![]⟩

class Facts : Prop where

variable [Facts]

def fn {F : FTy → Type} [FloatOps F] (main_arg0 : FVec F S4x6144x4096 .bf16) (main_arg1 : FVec F S16 .f32) (main_arg2 : IVec S4x4096x6144 8) (main_arg3 : FVec F S_ .f32) : IVec S_ 1 :=
  let main_cst : FVec F S_ .f32 := constant S_ .f32 0x7F800000#32
  let main_v0 : IVec S_ 1 := cmpf .olt main_arg3 main_cst
  main_v0
-- ==== Kernel.lean ====
abbrev S4x6144x4096 : Shape := ⟨3, ![4, 6144, 4096]⟩
abbrev S16 : Shape := ⟨1, ![16]⟩
abbrev S4x4096x6144 : Shape := ⟨3, ![4, 4096, 6144]⟩
abbrev S_ : Shape := ⟨0, ![]⟩
abbrev S1x16 : Shape := ⟨2, ![1, 16]⟩
abbrev S16x16 : Shape := ⟨2, ![16, 16]⟩
abbrev S256 : Shape := ⟨1, ![256]⟩
abbrev S1x256 : Shape := ⟨2, ![1, 256]⟩
abbrev S1x1 : Shape := ⟨2, ![1, 1]⟩
abbrev S4x4096x384 : Shape := ⟨3, ![4, 4096, 384]⟩
abbrev S4x4096x3072 : Shape := ⟨3, ![4, 4096, 3072]⟩
abbrev S1x2048x256 : Shape := ⟨3, ![1, 2048, 256]⟩
abbrev S1x256x2048 : Shape := ⟨3, ![1, 256, 2048]⟩
abbrev S1x256x128 : Shape := ⟨3, ![1, 256, 128]⟩
abbrev S1x256x1024 : Shape := ⟨3, ![1, 256, 1024]⟩
abbrev S256x256 : Shape := ⟨2, ![256, 256]⟩
abbrev S2x8x128 : Shape := ⟨3, ![2, 8, 128]⟩
abbrev S8x128 : Shape := ⟨2, ![8, 128]⟩
abbrev S1x8x128 : Shape := ⟨3, ![1, 8, 128]⟩
abbrev S32x128 : Shape := ⟨2, ![32, 128]⟩
abbrev S1x256x256 : Shape := ⟨3, ![1, 256, 256]⟩
abbrev S16x16x256 : Shape := ⟨3, ![16, 16, 256]⟩
abbrev S16x16x128 : Shape := ⟨3, ![16, 16, 128]⟩
abbrev S16x128 : Shape := ⟨2, ![16, 128]⟩
abbrev S1x16x128 : Shape := ⟨3, ![1, 16, 128]⟩
abbrev S128x128 : Shape := ⟨2, ![128, 128]⟩
abbrev S32x128x1 : Shape := ⟨3, ![32, 128, 1]⟩
abbrev S1x128x128 : Shape := ⟨3, ![1, 128, 128]⟩

abbrev nBuf : Space → Nat
  | .hbm => 13
  | .vmem => 15
  | .smem => 1
  | _ => 0

abbrev bufTy : (tb : Table) → Fin (tcTables nBuf tb) → BufTy
  | .hbm, ⟨0, _⟩ => ⟨S4x6144x4096, .bf16⟩
  | .hbm, ⟨1, _⟩ => ⟨S16, .f32⟩
  | .hbm, ⟨2, _⟩ => ⟨S4x4096x6144, .i8⟩
  | .hbm, ⟨3, _⟩ => ⟨S_, .f32⟩
  | .hbm, ⟨4, _⟩ => ⟨S1x16, .f32⟩
  | .hbm, ⟨5, _⟩ => ⟨S16x16, .f32⟩
  | .hbm, ⟨6, _⟩ => ⟨S256, .f32⟩
  | .hbm, ⟨7, _⟩ => ⟨S1x256, .f32⟩
  | .hbm, ⟨8, _⟩ => ⟨S1x1, .f32⟩
  | .hbm, ⟨9, _⟩ => ⟨S4x4096x384, .f32⟩
  | .hbm, ⟨10, _⟩ => ⟨S4x4096x3072, .i8⟩
  | .hbm, ⟨11, _⟩ => ⟨S4x4096x384, .fp8e4m3⟩
  | .hbm, ⟨12, _⟩ => ⟨S1x1, .f32⟩
  | .local _ .vmem, ⟨0, _⟩ => ⟨S1x256, .f32⟩
  | .local _ .vmem, ⟨1, _⟩ => ⟨S1x2048x256, .bf16⟩
  | .local _ .vmem, ⟨2, _⟩ => ⟨S1x2048x256, .bf16⟩
  | .local _ .vmem, ⟨3, _⟩ => ⟨S1x256x2048, .i8⟩
  | .local _ .vmem, ⟨4, _⟩ => ⟨S1x256x2048, .i8⟩
  | .local _ .vmem, ⟨5, _⟩ => ⟨S1x256x128, .f32⟩
  | .local _ .vmem, ⟨6, _⟩ => ⟨S1x256x128, .f32⟩
  | .local _ .vmem, ⟨7, _⟩ => ⟨S1x256x1024, .i8⟩
  | .local _ .vmem, ⟨8, _⟩ => ⟨S1x256x1024, .i8⟩
  | .local _ .vmem, ⟨9, _⟩ => ⟨S1x256x128, .fp8e4m3⟩
  | .local _ .vmem, ⟨10, _⟩ => ⟨S1x256x128, .fp8e4m3⟩
  | .local _ .vmem, ⟨11, _⟩ => ⟨S1x1, .f32⟩
  | .local _ .vmem, ⟨12, _⟩ => ⟨S256x256, .bf16⟩
  | .local _ .vmem, ⟨13, _⟩ => ⟨S256x256, .bf16⟩
  | .local _ .vmem, ⟨14, _⟩ => ⟨S2x8x128, .f32⟩
  | .local _ .smem, ⟨0, _⟩ => ⟨S1x1, .f32⟩
  | _, _ => ⟨S4x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![4, 16, 3], ![false, false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== ReferenceIdeal.lean ====
abbrev S4x6144x4096 : Shape := ⟨3, ![4, 6144, 4096]⟩
abbrev S16 : Shape := ⟨1, ![16]⟩
abbrev S4x4096x6144 : Shape := ⟨3, ![4, 4096, 6144]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S4x384x16x4096 : Shape := ⟨4, ![4, 384, 16, 4096]⟩
abbrev S16x4x384x4096 : Shape := ⟨4, ![16, 4, 384, 4096]⟩
abbrev S4x4096x384x16 : Shape := ⟨4, ![4, 4096, 384, 16]⟩
abbrev S1x1 : Shape := ⟨2, ![1, 1]⟩
abbrev S4x4096x384 : Shape := ⟨3, ![4, 4096, 384]⟩
abbrev S4x4096x3072 : Shape := ⟨3, ![4, 4096, 3072]⟩
abbrev S1x1x1 : Shape := ⟨3, ![1, 1, 1]⟩
abbrev S4x4096x384x1 : Shape := ⟨4, ![4, 4096, 384, 1]⟩
abbrev S4x4096x3072x2 : Shape := ⟨4, ![4, 4096, 3072, 2]⟩
abbrev S4x4096x3072x1 : Shape := ⟨4, ![4, 4096, 3072, 1]⟩

abbrev nBuf : Space → Nat
  | .hbm => 61
  | .vmem => 7
  | .smem => 0
  | _ => 0

abbrev bufTy : (tb : Table) → Fin (tcTables nBuf tb) → BufTy
  | .hbm, ⟨0, _⟩ => ⟨S4x6144x4096, .bf16⟩
  | .hbm, ⟨1, _⟩ => ⟨S16, .f32⟩
  | .hbm, ⟨2, _⟩ => ⟨S4x4096x6144, .i8⟩
  | .hbm, ⟨3, _⟩ => ⟨S_, .f32⟩
  | .hbm, ⟨4, _⟩ => ⟨S16, .i32⟩
  | .hbm, ⟨5, _⟩ => ⟨S16x1, .i32⟩
  | .hbm, ⟨6, _⟩ => ⟨S16, .i32⟩
  | .hbm, ⟨7, _⟩ => ⟨S1x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S_, .i32⟩
  | .hbm, ⟨25, _⟩ => ⟨S16x16, .i32⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S_, .i32⟩
  | .hbm, ⟨32, _⟩ => ⟨S16x16, .i32⟩
  | .hbm, ⟨33, _⟩ => ⟨S16x16, .i32⟩
  | .hbm, ⟨34, _⟩ => ⟨S16x16, .i32⟩
  | .hbm, ⟨35, _⟩ => ⟨S_, .i32⟩
  | .hbm, ⟨36, _⟩ => ⟨S16x16, .i32⟩
  | .hbm, ⟨37, _⟩ => ⟨S16x16, .i32⟩
  | .hbm, ⟨38, _⟩ => ⟨S16x16, .f32⟩
  | .hbm, ⟨39, _⟩ => ⟨S_, .f32⟩
  | .hbm, ⟨40, _⟩ => ⟨S16x16, .f32⟩
  | .hbm, ⟨41, _⟩ => ⟨S16x16, .f32⟩
  | .hbm, ⟨42, _⟩ => ⟨S_, .f32⟩
  | .hbm, ⟨43, _⟩ => ⟨S16x16, .f32⟩
  | .hbm, ⟨44, _⟩ => ⟨S16x16, .f32⟩
  | .hbm, ⟨45, _⟩ => ⟨S_, .f32⟩
  | .hbm, ⟨46, _⟩ => ⟨S16x16, .f32⟩
  | .hbm, ⟨47, _⟩ => ⟨S16x16, .f32⟩
  | .hbm, ⟨48, _⟩ => ⟨S1x16, .f32⟩
  | .hbm, ⟨49, _⟩ => ⟨S16x16, .f32⟩
  | .hbm, ⟨50, _⟩ => ⟨S16x16, .f32⟩
  | .hbm, ⟨51, _⟩ => ⟨S16x16, .bf16⟩
  | .hbm, ⟨52, _⟩ => ⟨S4x384x16x4096, .bf16⟩
  | .hbm, ⟨53, _⟩ => ⟨S16x4x384x4096, .f32⟩
  | .hbm, ⟨54, _⟩ => ⟨S4x4096x384x16, .f32⟩
  | .hbm, ⟨55, _⟩ => ⟨S4x4096x6144, .f32⟩
  | .hbm, ⟨56, _⟩ => ⟨S1x1, .f32⟩
  | .hbm, ⟨57, _⟩ => ⟨S4x4096x384, .f32⟩
  | .hbm, ⟨58, _⟩ => ⟨S4x4096x3072, .i8⟩
  | .hbm, ⟨59, _⟩ => ⟨S4x4096x384, .fp8e4m3⟩
  | .hbm, ⟨60, _⟩ => ⟨S1x1, .f32⟩
  | .local _ .vmem, ⟨0, _⟩ => ⟨S4x4096x6144, .f32⟩
  | .local _ .vmem, ⟨1, _⟩ => ⟨S4x4096x6144, .i8⟩
  | .local _ .vmem, ⟨2, _⟩ => ⟨S1x1, .f32⟩
  | .local _ .vmem, ⟨3, _⟩ => ⟨S4x4096x384, .f32⟩
  | .local _ .vmem, ⟨4, _⟩ => ⟨S4x4096x3072, .i8⟩
  | .local _ .vmem, ⟨5, _⟩ => ⟨S4x4096x384, .fp8e4m3⟩
  | .local _ .vmem, ⟨6, _⟩ => ⟨S1x1, .f32⟩
  | _, _ => ⟨S4x6144x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev main_v42_3 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x4096x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4096x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4096x384 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Live.Runs.lean ====
/- What the runs of the idealized kernel share: the branch condition in closed form over the grid points, the
   staging and scratch memrefs by name, and the scratch as memrefs. -/
module

public import proofs.«01_k».proof.Proof.Gen.KernelIdeal.Frame
public import proofs.«01_k».proof.Proof.Gen.KernelIdeal.Skeleton

@[expose] public section

set_option maxRecDepth 16384

noncomputable section

namespace Cert.KernelIdeal.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only — by arithmetic of the point. -/
theorem hcond0_0 : ∀ t : Fin cfg0.N, cond0_0 (grid0.coords t) ↔ t.val % 192 = 0 :=
  (fun t => by
    have ht : t.val < 192 := Nat.lt_of_lt_of_eq t.isLt N_0
    have e0 : (grid0.coords t 0).val = t.val / 48 % 4 := Pipeline.Grid.coords_val t 0 (by decide) rfl
    have e1 : (grid0.coords t 1).val = t.val / 3 % 16 := Pipeline.Grid.coords_val t 1 (by decide) rfl
    have e2 : (grid0.coords t 2).val = t.val / 1 % 3 := Pipeline.Grid.coords_val t 2 (by decide) rfl
    simp only [cond0_0, e0, e1, e2]
    word_cmp
   : ∀ t : Fin grid0.N, cond0_0 (grid0.coords t) ↔ t.val % 192 = 0)

/-! ## The kernel body on any staging memrefs: a subtype the run finds -/

/-- One staging buffer of output window 4, through which its contents are stated (`View.read_writes_of_cover`: the
    choice does not matter). -/
abbrev VO0_4 : View sig .tc .vmem S1x256x128 .f32 := (Memref.whole cc0_stg4_0 : Memref sig .tc .vmem S1x256x128 .f32).view
/-- One staging buffer of output window 5, through which its contents are stated (`View.read_writes_of_cover`: the
    choice does not matter). -/
abbrev VO0_5 : View sig .tc .vmem S1x256x1024 .i8 := (Memref.whole cc0_stg5_0 : Memref sig .tc .vmem S1x256x1024 .i8).view
/-- One staging buffer of output window 6, through which its contents are stated (`View.read_writes_of_cover`: the
    choice does not matter). -/
abbrev VO0_6 : View sig .tc .vmem S1x256x128 .fp8e4m3 := (Memref.whole cc0_stg6_0 : Memref sig .tc .vmem S1x256x128 .fp8e4m3).view
/-- One staging buffer of output window 7, through which its contents are stated (`View.read_writes_of_cover`: the
    choice does not matter). -/
abbrev VO0_7 : View sig .tc .vmem S1x1 .f32 := (Memref.whole cc0_stg7_0 : Memref sig .tc .vmem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
/-- Window 0's current buffer is whole. -/
abbrev hs0_0 (t : Fin cfg0.N) : (ms0_0 t).IsWhole := hstage0_0 ((cfg0.slots t 0).cast nbuf0_0)
/-- Window 1's current buffer at point `t`. -/
abbrev ms0_1 (t : Fin cfg0.N) : Memref sig .tc .vmem S1x256 .f32 := win0_1.stage (cfg0.slots t 1)
/-- Window 1's current buffer is whole. -/
abbrev hs0_1 (t : Fin cfg0.N) : (ms0_1 t).IsWhole := hstage0_1 ((cfg0.slots t 1).cast nbuf0_1)
/-- Window 2's current buffer at point `t`. -/
abbrev ms0_2 (t : Fin cfg0.N) : Memref sig .tc .vmem S1x2048x256 .bf16 := win0_2.stage (cfg0.slots t 2)
/-- Window 2's current buffer is whole. -/
abbrev hs0_2 (t : Fin cfg0.N) : (ms0_2 t).IsWhole := hstage0_2 ((cfg0.slots t 2).cast nbuf0_2)
/-- Window 3's current buffer at point `t`. -/
abbrev ms0_3 (t : Fin cfg0.N) : Memref sig .tc .vmem S1x256x2048 .i8 := win0_3.stage (cfg0.slots t 3)
/-- Window 3's current buffer is whole. -/
abbrev hs0_3 (t : Fin cfg0.N) : (ms0_3 t).IsWhole := hstage0_3 ((cfg0.slots t 3).cast nbuf0_3)
/-- Window 4's current buffer at point `t`. -/
abbrev ms0_4 (t : Fin cfg0.N) : Memref sig .tc .vmem S1x256x128 .f32 := win0_4.stage (cfg0.slots t 4)
/-- Window 4's current buffer is whole. -/
abbrev hs0_4 (t : Fin cfg0.N) : (ms0_4 t).IsWhole := hstage0_4 ((cfg0.slots t 4).cast nbuf0_4)
/-- Window 5's current buffer at point `t`. -/
abbrev ms0_5 (t : Fin cfg0.N) : Memref sig .tc .vmem S1x256x1024 .i8 := win0_5.stage (cfg0.slots t 5)
/-- Window 5's current buffer is whole. -/
abbrev hs0_5 (t : Fin cfg0.N) : (ms0_5 t).IsWhole := hstage0_5 ((cfg0.slots t 5).cast nbuf0_5)
/-- Window 6's current buffer at point `t`. -/
abbrev ms0_6 (t : Fin cfg0.N) : Memref sig .tc .vmem S1x256x128 .fp8e4m3 := win0_6.stage (cfg0.slots t 6)
/-- Window 6's current buffer is whole. -/
abbrev hs0_6 (t : Fin cfg0.N) : (ms0_6 t).IsWhole := hstage0_6 ((cfg0.slots t 6).cast nbuf0_6)
/-- Window 7's current buffer at point `t`. -/
abbrev ms0_7 (t : Fin cfg0.N) : Memref sig .tc .vmem S1x1 .f32 := win0_7.stage (cfg0.slots t 7)
/-- Window 7's current buffer is whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x256 .bf16 := Memref.whole cc0_scratch0
/-- Scratch 1, whole. -/
abbrev scM0_1 : Memref sig .tc .vmem S256x256 .bf16 := Memref.whole cc0_scratch1
/-- Scratch 2, whole. -/
abbrev scM0_2 : Memref sig .tc .vmem S2x8x128 .f32 := Memref.whole cc0_scratch2
/-- The scratch `arg11` the kernel carries between points, as a view: what it holds is stated through it. -/
abbrev VS0_0 : View sig .tc .vmem S256x256 .bf16 := scM0_0.view
/-- The scratch `arg12` the kernel carries between points, as a view: what it holds is stated through it. -/
abbrev VS0_1 : View sig .tc .vmem S256x256 .bf16 := scM0_1.view
/-- The scratch `arg13` the kernel carries between points, as a view: what it holds is stated through it. -/
abbrev VS0_2 : View sig .tc .vmem S2x8x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Live

end
-- ==== Proof.Live.RunA.lean ====
/- The body's run at the grid's first point, where the scratch is filled: what each buffer ends with, as pieces. -/
module

public import proofs.«01_k».proof.Proof.Live.Runs

@[expose] public section

set_option maxRecDepth 16384

noncomputable section

namespace Cert.KernelIdeal.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 2856000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    Σ' (L4 : List (View.Piece (Elt F) S1x256x128 .f32)), Σ' (L5 : List (View.Piece (Elt F) S1x256x1024 .i8)), Σ' (L6 : List (View.Piece (Elt F) S1x256x128 .fp8e4m3)), Σ' (L7 : List (View.Piece (Elt F) S1x1 .f32)), Σ' (LS0 : List (View.Piece (Elt F) S256x256 .bf16)), Σ' (LS1 : List (View.Piece (Elt F) S256x256 .bf16)), { LS2 : List (View.Piece (Elt F) S2x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_nvfp4_rht_sr i arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_nvfp4_rht_sr_eq_skeleton]; unfold cc0_nvfp4_rht_sr_skel
    simp only [k0_part267_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part268_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part269_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part270_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part271_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.KernelIdeal.Live

end
-- ==== Proof.Live.RunB.lean ====
/- The body's run at a point after the first: what each buffer ends with, as pieces. -/
module

public import proofs.«01_k».proof.Proof.Live.RunA

@[expose] public section

set_option maxRecDepth 16384

noncomputable section

namespace Cert.KernelIdeal.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 2756000 in
/-- What the body's stores leave in each output's staging memref, as pieces (last first), at a point after the first:
    on whole memrefs, the inputs' at their contents and the scratch at what the first point left, the body runs to the
    continuation with inputs and scratch as they were and each output's pieces written. The tensor scale's block is not touched. -/
noncomputable def kernelRun0_B (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    Σ' (L4 : List (View.Piece (Elt F) S1x256x128 .f32)), Σ' (L5 : List (View.Piece (Elt F) S1x256x1024 .i8)), { L6 : List (View.Piece (Elt F) S1x256x128 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0_nvfp4_rht_sr i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_nvfp4_rht_sr_eq_skeleton]; unfold cc0_nvfp4_rht_sr_skel
    simp only [k0_part267_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part268_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part269_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part270_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part271_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.KernelIdeal.Live

end
-- ==== Proof.Live.Frame.lean ====
/- The idealized kernel's run with its outputs named: what each staging buffer and the scratch hold after every point,
   the body's obligation, the run, and the frame. -/
module

public import proofs.«01_k».proof.Proof.Live.RunB
public import Idealize.ShloMosaic.Lib.Claim

@[expose] public section

set_option maxRecDepth 16384

noncomputable section

namespace Cert.KernelIdeal.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- Case A's pieces for output 4 tile its block (2 stores of `S1x128x128`, checked by the kernel's evaluation: Lib/Ring.lean `Piece.tiledL`, linear in the pieces, through a loop's `@[irreducible]` trip theorem too), so they cover it. -/
theorem cover0_A_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x256x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).1 S1x128x128.size (by sl_kernel_rfl) y

/-- What case A leaves in output 4's staging buffer: its pieces read back over junk. -/
def out0_A_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x256x128 .f32 :=
  VO0_4.read (Elt F) (VO0_4.writes (Elt F) VO0_4.junk (kernelRun0_A c i arg3 harg3 arg4 harg4 arg5 harg5 arg6 harg6 arg7 harg7 arg8 harg8 arg9 harg9 arg10 harg10 arg11 harg11 arg12 harg12 arg13 harg13 hc0 x0 x1 x2 x3).1)

/-- Case A's pieces for output 5 tile its block (16 stores of `S1x128x128`, checked by the kernel's evaluation: Lib/Ring.lean `Piece.tiledL`, linear in the pieces, through a loop's `@[irreducible]` trip theorem too), so they cover it. -/
theorem cover0_A_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x256x1024.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.1 S1x128x128.size (by sl_kernel_rfl) y

/-- What case A leaves in output 5's staging buffer: its pieces read back over junk. -/
def out0_A_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x256x1024 .i8 :=
  VO0_5.read (Elt F) (VO0_5.writes (Elt F) VO0_5.junk (kernelRun0_A c i arg3 harg3 arg4 harg4 arg5 harg5 arg6 harg6 arg7 harg7 arg8 harg8 arg9 harg9 arg10 harg10 arg11 harg11 arg12 harg12 arg13 harg13 hc0 x0 x1 x2 x3).2.1)

/-- Case A's pieces for output 6 tile its block (2 stores of `S1x128x128`, checked by the kernel's evaluation: Lib/Ring.lean `Piece.tiledL`, linear in the pieces, through a loop's `@[irreducible]` trip theorem too), so they cover it. -/
theorem cover0_A_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x256x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.1 S1x128x128.size (by sl_kernel_rfl) y

/-- What case A leaves in output 6's staging buffer: its pieces read back over junk. -/
def out0_A_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x256x128 .fp8e4m3 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 hc0 x0 x1 x2 x3).2.2.1)

/-- Case A's pieces for output 7 tile its block (2 stores of `S1x1`, checked by the kernel's evaluation: Lib/Ring.lean `Piece.tiledL`, linear in the pieces, through a loop's `@[irreducible]` trip theorem too), so they cover it. -/
theorem cover0_A_7 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x1.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.1 S1x1.size (by sl_kernel_rfl) y

/-- What case A leaves in output 7's staging buffer: its pieces read back over junk. -/
def out0_A_7 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x1 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 hc0 x0 x1 x2 x3).2.2.2.1)

/-- Case A's pieces for scratch `arg11`, which the kernel carries between points, cover it: 1 piece of `S256x256` tiling it (Lib/Ring.lean `Piece.tiledL`). -/
theorem scover0_A_0 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.2.1 S256x256.size (by sl_kernel_rfl) y

/-- What case A leaves in scratch `arg11`: its pieces read back over junk. -/
def sout0_A_0 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S256x256 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 x0 x1 x2 x3).2.2.2.2.1)

/-- Case A's pieces for scratch `arg12`, which the kernel carries between points, cover it: 1 piece of `S256x256` tiling it (Lib/Ring.lean `Piece.tiledL`). -/
theorem scover0_A_1 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1 S256x256.size (by sl_kernel_rfl) y

/-- What case A leaves in scratch `arg12`: its pieces read back over junk. -/
def sout0_A_1 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S256x256 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1)

/-- Case A's pieces for scratch `arg13`, which the kernel carries between points, cover it: 2 pieces of `S1x8x128` tiling it (Lib/Ring.lean `Piece.tiledL`). -/
theorem scover0_A_2 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S2x8x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1 S1x8x128.size (by sl_kernel_rfl) y

/-- What case A leaves in scratch `arg13`: its pieces read back over junk. -/
def sout0_A_2 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S2x8x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1)

/-- Case B's pieces for output 4 tile its block (2 stores of `S1x128x128`, checked by the kernel's evaluation: Lib/Ring.lean `Piece.tiledL`, linear in the pieces, through a loop's `@[irreducible]` trip theorem too), so they cover it. -/
theorem cover0_B_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) (y : S1x256x128.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1 S1x128x128.size (by sl_kernel_rfl) y

/-- What case B leaves in output 4's staging buffer: its pieces read back over junk. -/
def out0_B_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) : Vec F S1x256x128 .f32 :=
  VO0_4.read (Elt F) (VO0_4.writes (Elt F) VO0_4.junk (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1)

/-- Case B's pieces for output 5 tile its block (16 stores of `S1x128x128`, checked by the kernel's evaluation: Lib/Ring.lean `Piece.tiledL`, linear in the pieces, through a loop's `@[irreducible]` trip theorem too), so they cover it. -/
theorem cover0_B_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) (y : S1x256x1024.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1 S1x128x128.size (by sl_kernel_rfl) y

/-- What case B leaves in output 5's staging buffer: its pieces read back over junk. -/
def out0_B_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) : Vec F S1x256x1024 .i8 :=
  VO0_5.read (Elt F) (VO0_5.writes (Elt F) VO0_5.junk (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1)

/-- Case B's pieces for output 6 tile its block (2 stores of `S1x128x128`, checked by the kernel's evaluation: Lib/Ring.lean `Piece.tiledL`, linear in the pieces, through a loop's `@[irreducible]` trip theorem too), so they cover it. -/
theorem cover0_B_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) (y : S1x256x128.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1 S1x128x128.size (by sl_kernel_rfl) y

/-- What case B leaves in output 6's staging buffer: its pieces read back over junk. -/
def out0_B_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) : Vec F S1x256x128 .fp8e4m3 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1)

variable (m : (ℓ : Loc nD τ sig) → Buf (Elt F) ℓ) (ρ : Dev nD → PrngReg)

/-! ## What the buffers hold after each point -/

/-- The grid's first point. -/
def t0 : Fin cfg0.N := ⟨0, lt_of_lt_of_eq (by decide : 0 < 192) (show 192 = cfg0.N from N_0.symm)⟩

/-- The first point is a multiple of 192. -/
theorem t0_mod : t0.val % 192 = 0 := Nat.zero_mod 192

/-- What the first point leaves in the scratch `h_scr`, and the points after it find there. -/
def S0 (c : Dev nD) : Vec F S256x256 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)
/-- What the first point leaves in the scratch `p_scr`. -/
def S1 (c : Dev nD) : Vec F S256x256 .bf16 :=
  sout0_A_1 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)
/-- What the first point leaves in the scratch `c_scr`. -/
def S2 (c : Dev nD) : Vec F S2x8x128 .f32 :=
  sout0_A_2 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)
/-- What the first point leaves in the tensor scale's block. -/
def T7 (c : Dev nD) : Vec F S1x1 .f32 :=
  out0_A_7 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)

/-- What the body leaves in the block maxima' block at point `t`. -/
def at4 (c : Dev nD) (t : Fin cfg0.N) : Vec F S1x256x128 .f32 :=
  if h : t.val % 192 = 0 then
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c)
/-- The block maxima at the first point. -/
theorem at4_A (c : Dev nD) (t : Fin cfg0.N) (h : t.val % 192 = 0) : at4 m c t = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) := dif_pos h
/-- The block maxima at a later point. -/
theorem at4_B (c : Dev nD) (t : Fin cfg0.N) (h : ¬t.val % 192 = 0) : at4 m c t = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c) := dif_neg h

/-- What the body leaves in the codes' block at point `t`. -/
def at5 (c : Dev nD) (t : Fin cfg0.N) : Vec F S1x256x1024 .i8 :=
  if h : t.val % 192 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c)
/-- The codes at the first point. -/
theorem at5_A (c : Dev nD) (t : Fin cfg0.N) (h : t.val % 192 = 0) : at5 m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) := dif_pos h
/-- The codes at a later point. -/
theorem at5_B (c : Dev nD) (t : Fin cfg0.N) (h : ¬t.val % 192 = 0) : at5 m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c) := dif_neg h

/-- What the body leaves in the block scales' block at point `t`. -/
def at6 (c : Dev nD) (t : Fin cfg0.N) : Vec F S1x256x128 .fp8e4m3 :=
  if h : t.val % 192 = 0 then
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t)
  else
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c)
/-- The block scales at the first point. -/
theorem at6_A (c : Dev nD) (t : Fin cfg0.N) (h : t.val % 192 = 0) : at6 m c t = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) := dif_pos h
/-- The block scales at a later point. -/
theorem at6_B (c : Dev nD) (t : Fin cfg0.N) (h : ¬t.val % 192 = 0) : at6 m c t = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c) := dif_neg h

/-- The region's invariant before position `n`: before the first point the scratch is at anything, afterwards at what the
    first point left. -/
def PhiS (c : Dev nD) : ℕ → sProp 𝕄
  | 0 => Pipeline.ΦA spec0 c
  | _ + 1 => iprop(iprop(owns (c : Thread nD τ) scM0_0 fullShare (S0 m c) ∗ owns (c : Thread nD τ) scM0_1 fullShare (S1 m c) ∗ owns (c : Thread nD τ) scM0_2 fullShare (S2 m c)) ∗ (∃ r, prngReg c r))

/-- Before the first point the scratch is at anything. -/
theorem PhiS_zero (c : Dev nD) (n : ℕ) (hz : n = 0) : PhiS m c n = Pipeline.ΦA spec0 c := by
  subst hz; rfl

/-- After the first point the scratch is at what the first point left. -/
theorem PhiS_pos (c : Dev nD) (n : ℕ) (hz : n ≠ 0) :
    PhiS m c n = iprop(iprop(owns (c : Thread nD τ) scM0_0 fullShare (S0 m c) ∗ owns (c : Thread nD τ) scM0_1 fullShare (S1 m c) ∗ owns (c : Thread nD τ) scM0_2 fullShare (S2 m c)) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `at4`, `at5`, `at6`, and the tensor scale's at what the first point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => at4 m c t
    | ⟨5, _⟩ => at5 m c t
    | ⟨6, _⟩ => at6 m c t
    | ⟨7, _⟩ => T7 m c
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) : (dats m 0 c).Φ t.castSucc = PhiS m c t.val := by
  dsimp only [dats]; rfl

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = at4 m c t := by dsimp only [dats]
/-- What window 5's buffer holds after a point. -/
theorem after0_5 (c : Dev nD) (t : Fin cfg0.N) : (dats m 0 c).after 5 t = at5 m c t := by dsimp only [dats]
/-- What window 6's buffer holds after a point. -/
theorem after0_6 (c : Dev nD) (t : Fin cfg0.N) : (dats m 0 c).after 6 t = at6 m c t := by dsimp only [dats]
/-- What window 7's buffer holds after a point. -/
theorem after0_7 (c : Dev nD) (t : Fin cfg0.N) : (dats m 0 c).after 7 t = T7 m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block before every point. -/
theorem before0_1 (c : Dev nD) (t : Fin cfg0.N) (d) : (dats m 0 c).before 1 t d = iblk m c 1 t :=
  before0_1_of m (dats m 0 c) (A_eq m c 1) (after0_1 m c) t d
/-- Window 2's buffer holds its block before every point. -/
theorem before0_2 (c : Dev nD) (t : Fin cfg0.N) (d) : (dats m 0 c).before 2 t d = iblk m c 2 t :=
  before0_2_of m (dats m 0 c) (A_eq m c 2) (after0_2 m c) t d
/-- Window 3's buffer holds its block before every point. -/
theorem before0_3 (c : Dev nD) (t : Fin cfg0.N) (d) : (dats m 0 c).before 3 t d = iblk m c 3 t :=
  before0_3_of m (dats m 0 c) (A_eq m c 3) (after0_3 m c) t d
/-- The first point stores the tensor scale's block; -/
theorem idle7_A (t : Fin cfg0.N) (h : t.val % 192 = 0) : cfg0.idle 7 (cfg0.grid.coords t) = false := by
  have hc : k0_cond1 (grid0.coords t) = 1#1 := (hcond0_0 t).mpr h
  show (!(k0_cond1 (grid0.coords t) == 1#1)) = false
  rw [hc]; rfl

/-- no other point does. -/
theorem idle7_B (t : Fin cfg0.N) (h : ¬t.val % 192 = 0) : cfg0.idle 7 (cfg0.grid.coords t) = true := by
  have hc : ¬k0_cond1 (grid0.coords t) = 1#1 := fun e => h ((hcond0_0 t).mp e)
  show (!(k0_cond1 (grid0.coords t) == 1#1)) = true
  rw [Bool.not_eq_true', beq_eq_false_iff_ne]; exact hc

/-- After the first point the tensor scale's staging buffer holds what the first point left. -/
theorem before0_7_B' (c : Dev nD) (d) : ∀ (n : ℕ) (hn : n + 1 < cfg0.N), (dats m 0 c).before 7 ⟨n + 1, hn⟩ d = T7 m c := by
  intro n
  induction n with
  | zero =>
    intro hn
    rw [Dat.before_of_pos _ 7 ⟨0 + 1, hn⟩ (Nat.succ_ne_zero _) ((cfg0.win 7).fetch_out rfl _),
      if_neg (fun h => by have := (flush0_7 _).mp h; dsimp only at this; omega)]
    unfold Dat.left
    rw [idle7_A _ (by dsimp only)]
    dsimp only [dats]
    rfl
  | succ n ih =>
    intro hn
    have hN : n + 1 + 1 < 192 := lt_of_lt_of_eq hn (show cfg0.N = 192 from N_0)
    rw [Dat.before_of_pos _ 7 ⟨n + 1 + 1, hn⟩ (Nat.succ_ne_zero _) ((cfg0.win 7).fetch_out rfl _),
      if_neg (fun h => by have := (flush0_7 _).mp h; dsimp only at this; omega)]
    unfold Dat.left
    rw [idle7_B _ (by dsimp only; omega)]
    exact ih _

/-- At a later point the tensor scale's staging buffer holds what the first point left. -/
theorem before0_7_B (c : Dev nD) (t : Fin cfg0.N) (h0 : ¬t.val % 192 = 0) (d) : (dats m 0 c).before 7 t d = T7 m c := by
  obtain ⟨n, hn⟩ := t
  obtain _ | n := n
  · exact absurd (Nat.zero_mod 192) h0
  · exact before0_7_B' m c d n hn

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) from rfl, PhiS_pos m c _ (Nat.succ_ne_zero _)]
  have hN : t.val < 192 := lt_of_lt_of_eq t.isLt (show cfg0.N = 192 from N_0)
  by_cases h0 : t.val % 192 = 0
  · by_cases hz : t.val = 0
    · obtain rfl : t = t0 := Fin.ext hz
      rw [PhiS_castSucc m c t0, PhiS_zero m c _ hz, PhiA0_eq]
      rw [at4_A m c t0 h0, at5_A m c t0 h0, at6_A m c t0 h0]
      unfold S0 S1 S2 T7 out0_A_4 out0_A_5 out0_A_6 out0_A_7 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t0) _ _ _ _ _ _ _ _ _ _ _ _ _ _ _ _ _ _ _ _ _ _ ((hcond0_0 t0).mpr h0) (iblk m c 0 t0) (iblk m c 1 t0) (iblk m c 2 t0) (iblk m c 3 t0)).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%e7, H7⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _)
    · exfalso; have hN : t.val < 192 := lt_of_lt_of_eq t.isLt (show cfg0.N = 192 from N_0); omega
  · by_cases hz : t.val = 0
    · exfalso; have hN : t.val < 192 := lt_of_lt_of_eq t.isLt (show cfg0.N = 192 from N_0); omega
    · rw [PhiS_castSucc m c t, PhiS_pos m c _ hz]
      rw [at4_B m c t h0, at5_B m c t h0, at6_B m c t h0]
      simp only [before0_7_B m c t h0]
      unfold out0_B_4 out0_B_5 out0_B_6; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) _ _ _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The tensor scale's staging buffer holds after every point what the first left, which is what the obligation asks:
    after the first point and before the write-back, what the body found. -/
theorem leaves7 (c : Dev nD) (t : Fin cfg0.N) :
    (owns (c : Thread nD τ) (ms0_7 t) fullShare ((dats m 0 c).after 7 t) : sProp 𝕄) ⊢ (dats m 0 c).leavesExact 7 t := by
  unfold Dat.leavesExact
  by_cases h : t.val % 192 = 0
  · rw [idle7_A t h]
  · rw [idle7_B t h]
    cases hf : (cfg0.win 7).flush t
    · dsimp only
      iintro H
      iexists (T7 m c)
      rw [before0_7_B m c t h]
      iexact H
    · exact .rfl

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl
    (sep_mono .rfl (sep_mono .rfl (sep_mono .rfl (sep_mono .rfl (leaves7 m c t)))))))))

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Live

end
-- ==== Proof.Live.Tile.lean ====
/- What the body computes from one tile of tokens and one half of the channels, written once: the transformed weights,
   the permuted random bytes, the block maxima, the decode scale and the packed codes. Every store of the body is one of
   these at its own tile. -/
module

public import proofs.«01_k».proof.Proof.Gen.KernelIdeal

@[expose] public section

set_option maxRecDepth 16384

noncomputable section

namespace Cert.KernelIdeal.Live

open Idealize.ShloMosaic
open Cert.KernelIdeal.Gen

variable {F : FTy → Type} [FloatOps F]

/-- The transformed weights of one tile of 256 tokens, as [position in block, block, channel]. -/
def tileW (h : Vec F S256x256 .bf16) (x : Vec F S1x256x256 .bf16) : FVec F S16x16x256 .f32 :=
  shapeCast S16x16x256 (matmul (F := F) (φ₁ := .bf16) (φ₂ := .bf16) dot_S256x256_S256x256_S256x256_1_0_0_1_n_n none h
    (shapeCast S256x256 x shapeCasts_S1x256x256_S256x256) (constant S256x256 .f32 0x00000000#32)) shapeCasts_S256x256_S16x16x256

/-- The random bytes of one tile as scaled floats, as [position in block, block, channel]. -/
def tileR (p : Vec F S256x256 .bf16) (r : Vec F S1x256x256 .i8) : FVec F S16x16x256 .f32 :=
  shapeCast S16x16x256 (matmul (F := F) (φ₁ := .bf16) (φ₂ := .bf16) dot_S256x256_S256x256_S256x256_1_1_0_0_n_n none p
    (uitofp .bf16 (shapeCast S256x256 (r : IVec S1x256x256 8) shapeCasts_S1x256x256_S256x256) : FVec F S256x256 .bf16)
    (constant S256x256 .f32 0x00000000#32)) shapeCasts_S256x256_S16x16x256

/-- The block maxima of a half of the channels. -/
def chunkAmax (w : FVec F S16x16x128 .f32) : FVec F S16x128 .f32 :=
  multiReduction .maximumf [0] S16x128 (absf w) 0xFF800000#32 reduces_S16x16x128_S16x128 (.inl rfl) rfl

/-- The decode scale of each block: the rounded block scale times the tensor scale, 2^116 where that is not positive. -/
def chunkDec (w : FVec F S16x16x128 .f32) (ts rk : FVec F S1x1 .f32) : FVec F S16x128 .f32 :=
  let d : FVec F S16x128 .f32 := mulf (extf .f32 (truncf .fp8e4m3 (minimumf (mulf (chunkAmax w) (broadcastTo S16x128 rk broadcasts_S1x1_S16x128))
      (broadcast S16x128 (Scalar.ofBits .f32 0x43E00000#32))) bitsLt_fp8e4m3_f32) bitsLt_fp8e4m3_f32) (broadcastTo S16x128 ts broadcasts_S1x1_S16x128)
  select (cmpf .ogt d (broadcast S16x128 (Scalar.ofBits .f32 0x00000000#32))) d (broadcast S16x128 (Scalar.ofBits .f32 0x79800000#32))

/-- The reciprocal of 256 times the decode scale. -/
def chunkInv (d : FVec F S16x128 .f32) : FVec F S16x128 .f32 :=
  divf (broadcast S16x128 (Scalar.ofBits .f32 0x3F800000#32)) (mulf d (broadcast S16x128 (Scalar.ofBits .f32 0x43800000#32)))

/-- One array of blocks twice, one under the other. -/
def twice (a b : FVec F S16x128 .f32) : FVec F S32x128 .f32 :=
  concatenate S32x128 0 [⟨S16x128, a⟩, ⟨S16x128, b⟩] concatenates_S16x128_S16x128_S32x128_d0

/-- One position of every block. -/
def plane (w : FVec F S16x16x128 .f32) (i : Nat) (hi : S16x16x128.Slices ![i, 0, 0] S1x16x128) : FVec F S16x128 .f32 :=
  shapeCast S16x128 (extractStridedSlice S1x16x128 ![i, 0, 0] w hi) shapeCasts_S1x16x128_S16x128

/-- One of the four lines whose least is the word of a float in [2^-8, 2^-4]. -/
def line (x : FVec F S32x128 .f32) (s : BitVec 32) (o : BitVec 32) : IVec S32x128 32 :=
  addi (fptosi 32 (ceil (mulf x (broadcast S32x128 (Scalar.ofBits .f32 s))))) (broadcast S32x128 o)

/-- The word of the scaled magnitude. -/
def magWord (w d2 i2 : FVec F S32x128 .f32) : IVec S32x128 32 :=
  let x : FVec F S32x128 .f32 := minimumf (mulf (addf (absf w) (maximumf (absf w) d2)) i2) (broadcast S32x128 (Scalar.ofBits .f32 0x3D800000#32))
  minsi (minsi (minsi (line x 0x4F000000#32 989855744#32) (line x 0x4E800000#32 998244352#32)) (line x 0x4E000000#32 1006632960#32))
    (line x 0x4D800000#32 1015021568#32)

/-- The word of the biased random value. -/
def rndWord (r : FVec F S32x128 .f32) : IVec S32x128 32 :=
  addi (fptosi 32 (mulf (mulf (addf r (broadcast S32x128 (Scalar.ofBits .f32 0x0677DFFF#32))) (broadcast S32x128 (Scalar.ofBits .f32 0x79000000#32)))
    (broadcast S32x128 (Scalar.ofBits .f32 0x4B000000#32)))) (broadcast S32x128 92274688#32)

/-- The byte a word rounds to. -/
def roundByte (v : IVec S32x128 32) : IVec S32x128 8 :=
  trunci 8 (minsi (subi (shrsi (addi (addi v (broadcast S32x128 524287#32)) (andi (shrsi v (broadcast S32x128 20#32)) (broadcast S32x128 1#32)))
    (broadcast S32x128 20#32)) (broadcast S32x128 960#32)) (broadcast S32x128 127#32)) natLt_8_32

/-- The byte of a weight's magnitude. -/
def magByte (w r d2 i2 : FVec F S32x128 .f32) : IVec S32x128 8 := roundByte (addi (magWord w d2 i2) (rndWord r))

/-- The byte of a weight's sign. -/
def sgnByte (w : FVec F S32x128 .f32) : IVec S32x128 8 :=
  trunci 8 (select (cmpf .olt w (broadcast S32x128 (Scalar.ofBits .f32 0x00000000#32))) (broadcast S32x128 128#32) (broadcast S32x128 0#32)) natLt_8_32

/-- Four rows of bytes as one row of words. -/
def toWord (b : IVec S32x128 8) : IVec S8x128 32 := bitcast S8x128 32 b bitcasts_S32x128_w8_S8x128_w32

/-- The low and the high nibbles of two magnitude words, as one word of nibbles. -/
def nibWord (m0 m1 : IVec S8x128 32) : IVec S8x128 32 :=
  ori (andi (shrui m0 (broadcast S8x128 2#32)) (broadcast S8x128 252645135#32)) (andi (shli m1 (broadcast S8x128 2#32)) (broadcast S8x128 4042322160#32))

/-- The signs of two sign words, one bit to a nibble. -/
def sgnWord (s0 s1 : IVec S8x128 32) : IVec S8x128 32 :=
  ori (andi (shrui s0 (broadcast S8x128 4#32)) (broadcast S8x128 134744072#32)) (andi s1 (broadcast S8x128 2155905152#32))

/-- The codes of a word of nibbles and a word of signs. -/
def codeWord (n s : IVec S8x128 32) : IVec S8x128 32 :=
  ori (subi (subi n (broadcast S8x128 2004318071#32)) (andi (shrui (subi n (broadcast S8x128 2004318071#32)) (broadcast S8x128 3#32)) (broadcast S8x128 286331153#32)))
    (andi s n)

/-- The packed codes of four positions of every block: positions `a` and `b` in the low nibbles, `a'` and `b'` in the high. -/
def packed (w r : FVec F S16x16x128 .f32) (d2 i2 : FVec F S32x128 .f32) (a b a' b' : Nat)
    (ha : S16x16x128.Slices ![a, 0, 0] S1x16x128) (hb : S16x16x128.Slices ![b, 0, 0] S1x16x128)
    (ha' : S16x16x128.Slices ![a', 0, 0] S1x16x128) (hb' : S16x16x128.Slices ![b', 0, 0] S1x16x128) : IVec S32x128 8 :=
  bitcast S32x128 8 (codeWord
    (nibWord (toWord (magByte (twice (plane w a ha) (plane w b hb)) (twice (plane r a ha) (plane r b hb)) d2 i2))
      (toWord (magByte (twice (plane w a' ha') (plane w b' hb')) (twice (plane r a' ha') (plane r b' hb')) d2 i2)))
    (sgnWord (toWord (sgnByte (twice (plane w a ha) (plane w b hb)))) (toWord (sgnByte (twice (plane w a' ha') (plane w b' hb')))))) bitcasts_S8x128_w32_S32x128_w8

/-- The packed codes of a half of the channels, as [group of four positions and block, channel]. -/
def chunkCodes (w r : FVec F S16x16x128 .f32) (ts rk : FVec F S1x1 .f32) : IVec S128x128 8 :=
  let d := chunkDec w ts rk
  let d2 := twice d d
  let i2 := twice (chunkInv d) (chunkInv d)
  concatenate S128x128 0 [⟨S32x128, packed w r d2 i2 0 2 1 3 slices_S16x16x128_o0_0_0_S1x16x128 slices_S16x16x128_o2_0_0_S1x16x128 slices_S16x16x128_o1_0_0_S1x16x128 slices_S16x16x128_o3_0_0_S1x16x128⟩,
    ⟨S32x128, packed w r d2 i2 4 6 5 7 slices_S16x16x128_o4_0_0_S1x16x128 slices_S16x16x128_o6_0_0_S1x16x128 slices_S16x16x128_o5_0_0_S1x16x128 slices_S16x16x128_o7_0_0_S1x16x128⟩,
    ⟨S32x128, packed w r d2 i2 8 10 9 11 slices_S16x16x128_o8_0_0_S1x16x128 slices_S16x16x128_o10_0_0_S1x16x128 slices_S16x16x128_o9_0_0_S1x16x128 slices_S16x16x128_o11_0_0_S1x16x128⟩,
    ⟨S32x128, packed w r d2 i2 12 14 13 15 slices_S16x16x128_o12_0_0_S1x16x128 slices_S16x16x128_o14_0_0_S1x16x128 slices_S16x16x128_o13_0_0_S1x16x128 slices_S16x16x128_o15_0_0_S1x16x128⟩]
    concatenates_S32x128_S32x128_S32x128_S32x128_S128x128_d0

/-- The lane numbers. -/
def lane : IVec S32x128 32 := iota .tc S32x128 32 [1] iota_S32x128_d1_w32

/-- The lane each lane is filled from: lane modulo 8 times 16 plus lane over 8, as the body computes it. -/
def perm : IVec S32x128 32 :=
  let one : BitVec 32 := Scalar.select (Scalar.cmpi .eq 8#32 0#32) 1#32 8#32
  let rem : IVec S32x128 32 := remsi lane (broadcast S32x128 one)
  let mod : IVec S32x128 32 := select (andi (xori (cmpi .slt rem (broadcast S32x128 0#32))
      (broadcastTo S32x128 (broadcast S32x128 (Scalar.cmpi .slt one 0#32)) broadcasts_S32x128_S32x128)) (cmpi .ne rem (broadcast S32x128 0#32)))
    (addi rem (broadcast S32x128 one)) rem
  let quo : IVec S32x128 32 := divsi lane (broadcast S32x128 8#32)
  let neg : IVec S32x128 1 := andi (cmpi .ne (subi (extui 32 (cmpi .sgt lane (broadcast S32x128 0#32)) natLt_1_32) (extui 32 (cmpi .slt lane (broadcast S32x128 0#32)) natLt_1_32))
      (broadcast S32x128 (Scalar.subi (Scalar.extui (Scalar.cmpi .sgt 8#32 0#32)) (Scalar.extui (Scalar.cmpi .slt 8#32 0#32)))))
    (cmpi .ne (remsi lane (broadcast S32x128 8#32)) (broadcast S32x128 0#32))
  addi (muli mod (broadcast S32x128 16#32)) (select neg (subi quo (broadcast S32x128 1#32)) quo)

/-- The permutation as the gather takes it: negative lanes counted from the end. -/
def permIdx : IVec S32x128 32 :=
  shapeCast S32x128 (shapeCast S32x128x1 (select (cmpi .slt perm (broadcast S32x128 0#32)) (addi perm (broadcast S32x128 128#32)) perm)
    shapeCasts_S32x128_S32x128x1) shapeCasts_S32x128x1_S32x128

/-- The stored codes: the packed codes transposed, their columns permuted. -/
def storeCodes (c : IVec S128x128 8) : IVec S1x128x128 8 :=
  shapeCast S1x128x128 (bitcast S128x128 8 (dynamicGather 1 (bitcast S32x128 32 (transpose S128x128 [1, 0] c transposes_S128x128_p1_0_S128x128)
    bitcasts_S128x128_w8_S32x128_w32) permIdx) bitcasts_S32x128_w32_S128x128_w8) shapeCasts_S128x128_S1x128x128

/-- The block maxima of all eight tiles, transposed. -/
def amaxAll (a0 a1 a2 a3 a4 a5 a6 a7 : FVec F S16x128 .f32) : FVec F S128x128 .f32 :=
  transpose S128x128 [1, 0] (concatenate S128x128 0 [⟨S16x128, a0⟩, ⟨S16x128, a1⟩, ⟨S16x128, a2⟩, ⟨S16x128, a3⟩, ⟨S16x128, a4⟩, ⟨S16x128, a5⟩, ⟨S16x128, a6⟩, ⟨S16x128, a7⟩]
    concatenates_S16x128_S16x128_S16x128_S16x128_S16x128_S16x128_S16x128_S16x128_S128x128_d0) transposes_S128x128_p1_0_S128x128

/-- The stored block maxima. -/
def storeAmax (a : FVec F S128x128 .f32) : FVec F S1x128x128 .f32 := shapeCast S1x128x128 a shapeCasts_S128x128_S1x128x128

/-- The stored block scales. -/
def storeSb (a : FVec F S128x128 .f32) (rk : FVec F S1x1 .f32) : FVec F S1x128x128 .fp8e4m3 :=
  shapeCast S1x128x128 (truncf .fp8e4m3 (minimumf (mulf a (broadcastTo S128x128 rk broadcasts_S1x1_S128x128)) (broadcast S128x128 (Scalar.ofBits .f32 0x43E00000#32)))
    bitsLt_fp8e4m3_f32) shapeCasts_S128x128_S1x128x128

/-- The first entry of a row of the constants. -/
def entry (v : Vec F S1x8x128 .f32) : FVec F S1x1 .f32 :=
  extractStridedSlice S1x1 ![0, 0] (shapeCast S8x128 (v : FVec F S1x8x128 .f32) shapeCasts_S1x8x128_S8x128) slices_S8x128_o0_0_S1x1

/-- The low half of the channels. -/
def half0 (w : FVec F S16x16x256 .f32) : FVec F S16x16x128 .f32 :=
  extractStridedSlice S16x16x128 ![0, 0, 0] w slices_S16x16x256_o0_0_0_S16x16x128

/-- The high half of the channels. -/
def half1 (w : FVec F S16x16x256 .f32) : FVec F S16x16x128 .f32 :=
  extractStridedSlice S16x16x128 ![0, 0, 128] w slices_S16x16x256_o0_0_128_S16x16x128

end Cert.KernelIdeal.Live

end
-- ==== Proof.Live.Pieces.lean ====
/- The stores of the body's run, as the tile computations of its loads: every piece of every block, and from them each
   block as one function of the blocks the body reads. -/
module

public import proofs.«01_k».proof.Proof.Live.Frame
public import proofs.«01_k».proof.Proof.Live.Tile
public import Idealize.ShloMosaic.Lib.Pipeline.ValueKit.Tiles

@[expose] public section

set_option maxRecDepth 16384

noncomputable section

namespace Cert.KernelIdeal.Live

open Idealize.ShloMosaic Idealize.ShloMosaic.Tactic
open Cert.KernelIdeal.Gen

variable {F : FTy → Type} [FloatOps F]

/-- A half of the channels by its number. -/
def half (c : Nat) (hc : c < 2) (w : FVec F S16x16x256 .f32) : FVec F S16x16x128 .f32 :=
  extractStridedSlice S16x16x128 ![0, 0, 128 * c] w (by
    match c, hc with
    | 0, _ => exact slices_S16x16x256_o0_0_0_S16x16x128
    | 1, _ => exact slices_S16x16x256_o0_0_128_S16x16x128)

/-- The rectangle of a half of the channels in a block of 128 lanes. -/
def chanRect (c : Nat) (hc : c < 2) : Rect S1x256x128 :=
  Rect.unit (s := S1x256x128) ![0, 128 * c, 0] ![1, 128, 128] (by
    match c, hc with
    | 0, _ => exact inb_S1x256x128_S1x128x128_0_0_0
    | 1, _ => exact inb_S1x256x128_S1x128x128_0_128_0)

/-- A store of codes lies inside their block. -/
theorem codes_inb (t c : Nat) (ht : t < 8) (hc : c < 2) : ∀ a : Fin S1x256x1024.rank, (![0, 128 * c, 128 * t] : Fin 3 → Nat) a + (![1, 128, 128] : Fin 3 → Nat) a ≤ S1x256x1024.size a := by
  intro a
  fin_cases a
  · show 0 + 1 ≤ 1; omega
  · show 128 * c + 128 ≤ 256; omega
  · show 128 * t + 128 ≤ 1024; omega

/-- The maxima of one half of the channels of all tiles. -/
def halfAmax (h : Vec F S256x256 .bf16) (x : (t : Nat) → t < 8 → Vec F S1x256x256 .bf16) (c : Nat) (hc : c < 2) : FVec F S128x128 .f32 :=
  amaxAll (chunkAmax (half c hc (tileW h (x 0 (by decide))))) (chunkAmax (half c hc (tileW h (x 1 (by decide)))))
    (chunkAmax (half c hc (tileW h (x 2 (by decide))))) (chunkAmax (half c hc (tileW h (x 3 (by decide)))))
    (chunkAmax (half c hc (tileW h (x 4 (by decide))))) (chunkAmax (half c hc (tileW h (x 5 (by decide)))))
    (chunkAmax (half c hc (tileW h (x 6 (by decide))))) (chunkAmax (half c hc (tileW h (x 7 (by decide)))))

/-- The store of one half's maxima. -/
def amaxPiece (h : Vec F S256x256 .bf16) (x : (t : Nat) → t < 8 → Vec F S1x256x256 .bf16) (c : Nat) (hc : c < 2) :
    View.Piece (Elt F) S1x256x128 .f32 := ⟨chanRect c hc, storeAmax (halfAmax h x c hc)⟩

/-- The store of one half's block scales. -/
def sbPiece (h : Vec F S256x256 .bf16) (x : (t : Nat) → t < 8 → Vec F S1x256x256 .bf16) (k : Vec F S1x8x128 .f32) (c : Nat) (hc : c < 2) :
    View.Piece (Elt F) S1x256x128 .fp8e4m3 := ⟨chanRect c hc, storeSb (halfAmax h x c hc) (entry k)⟩

/-- The store of the codes of one tile and half. -/
def codesPiece (h p : Vec F S256x256 .bf16) (x : (t : Nat) → t < 8 → Vec F S1x256x256 .bf16) (r : (t : Nat) → t < 8 → Vec F S1x256x256 .i8)
    (k0 k1 : Vec F S1x8x128 .f32) (t c : Nat) (ht : t < 8) (hc : c < 2) : View.Piece (Elt F) S1x256x1024 .i8 :=
  ⟨Rect.unit (s := S1x256x1024) ![0, 128 * c, 128 * t] ![1, 128, 128] (codes_inb t c ht hc),
    storeCodes (chunkCodes (half c hc (tileW h (x t ht))) (half c hc (tileR p (r t ht))) (entry k0) (entry k1))⟩

/-- Both stores of the maxima, the last first. -/
def amaxPieces (h : Vec F S256x256 .bf16) (x : (t : Nat) → t < 8 → Vec F S1x256x256 .bf16) : List (View.Piece (Elt F) S1x256x128 .f32) :=
  [amaxPiece h x 1 (by decide), amaxPiece h x 0 (by decide)]

/-- Both stores of the block scales, the last first. -/
def sbPieces (h : Vec F S256x256 .bf16) (x : (t : Nat) → t < 8 → Vec F S1x256x256 .bf16) (k : Vec F S1x8x128 .f32) :
    List (View.Piece (Elt F) S1x256x128 .fp8e4m3) := [sbPiece h x k 1 (by decide), sbPiece h x k 0 (by decide)]

/-- The sixteen stores of the codes, the last first. -/
def codesPieces (h p : Vec F S256x256 .bf16) (x : (t : Nat) → t < 8 → Vec F S1x256x256 .bf16) (r : (t : Nat) → t < 8 → Vec F S1x256x256 .i8)
    (k0 k1 : Vec F S1x8x128 .f32) : List (View.Piece (Elt F) S1x256x1024 .i8) :=
  [codesPiece h p x r k0 k1 7 1 (by decide) (by decide),
    codesPiece h p x r k0 k1 7 0 (by decide) (by decide),
    codesPiece h p x r k0 k1 6 1 (by decide) (by decide),
    codesPiece h p x r k0 k1 6 0 (by decide) (by decide),
    codesPiece h p x r k0 k1 5 1 (by decide) (by decide),
    codesPiece h p x r k0 k1 5 0 (by decide) (by decide),
    codesPiece h p x r k0 k1 4 1 (by decide) (by decide),
    codesPiece h p x r k0 k1 4 0 (by decide) (by decide),
    codesPiece h p x r k0 k1 3 1 (by decide) (by decide),
    codesPiece h p x r k0 k1 3 0 (by decide) (by decide),
    codesPiece h p x r k0 k1 2 1 (by decide) (by decide),
    codesPiece h p x r k0 k1 2 0 (by decide) (by decide),
    codesPiece h p x r k0 k1 1 1 (by decide) (by decide),
    codesPiece h p x r k0 k1 1 0 (by decide) (by decide),
    codesPiece h p x r k0 k1 0 1 (by decide) (by decide),
    codesPiece h p x r k0 k1 0 0 (by decide) (by decide)]

/-- A load of a tile of x lies inside its block. -/
theorem x_inb (t : Nat) (ht : t < 8) : ∀ a : Fin S1x2048x256.rank, (![0, 256 * t, 0] : Fin 3 → Nat) a + S1x256x256.size a ≤ S1x2048x256.size a := by
  intro a
  fin_cases a
  · show 0 + 1 ≤ 1; omega
  · show 256 * t + 256 ≤ 2048; omega
  · show 0 + 256 ≤ 256; omega

/-- A load of a tile of random bytes lies inside its block. -/
theorem r_inb (t : Nat) (ht : t < 8) : ∀ a : Fin S1x256x2048.rank, (![0, 0, 256 * t] : Fin 3 → Nat) a + S1x256x256.size a ≤ S1x256x2048.size a := by
  intro a
  fin_cases a
  · show 0 + 1 ≤ 1; omega
  · show 0 + 256 ≤ 256; omega
  · show 256 * t + 256 ≤ 2048; omega

/-- The tokens of a tile in the block of activations. -/
def xRect (t : Nat) (ht : t < 8) : Rect S1x2048x256 := Rect.unit (s := S1x2048x256) ![0, 256 * t, 0] S1x256x256.size (x_inb t ht)

/-- The tokens of a tile in the block of random bytes. -/
def rRect (t : Nat) (ht : t < 8) : Rect S1x256x2048 := Rect.unit (s := S1x256x2048) ![0, 0, 256 * t] S1x256x256.size (r_inb t ht)

/-- The loads of the activations' block by tile. -/
def xTiles (x : Vec F S1x2048x256 .bf16) : (t : Nat) → t < 8 → Vec F S1x256x256 .bf16 := fun t ht => View.ld x (xRect t ht)

/-- The loads of the random bytes' block by tile. -/
def rTiles (x : Vec F S1x256x2048 .i8) : (t : Nat) → t < 8 → Vec F S1x256x256 .i8 := fun t ht => View.ld x (rRect t ht)

/-- After the first point the body's stores of block maxima are `amaxPieces` of what it loads. -/
theorem run_amax_B (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1 = amaxPieces (View.readAt (Elt F) arg11.view (Rect.unit (s := S256x256) ![0, 0] S256x256.size inb_S256x256_S256x256_0_0).toLoadRect (harg11.unread xs0)) (fun t ht => View.readAt (Elt F) arg5.view (xRect t ht).toLoadRect (harg5.unread x2)) := by sl_kernel_rfl

/-- After the first point the body's stores of codes are `codesPieces` of what it loads. -/
theorem run_codes_B (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1 = codesPieces (View.readAt (Elt F) arg11.view (Rect.unit (s := S256x256) ![0, 0] S256x256.size inb_S256x256_S256x256_0_0).toLoadRect (harg11.unread xs0)) (View.readAt (Elt F) arg12.view (Rect.unit (s := S256x256) ![0, 0] S256x256.size inb_S256x256_S256x256_0_0).toLoadRect (harg12.unread xs1))
      (fun t ht => View.readAt (Elt F) arg5.view (xRect t ht).toLoadRect (harg5.unread x2))
      (fun t ht => View.readAt (Elt F) arg6.view (rRect t ht).toLoadRect (harg6.unread x3))
      (View.readAt (Elt F) arg13.view (Rect.unit (s := S2x8x128) ![0, 0, 0] S1x8x128.size inb_S2x8x128_S1x8x128_0_0_0).toLoadRect (harg13.unread xs2))
      (View.readAt (Elt F) arg13.view (Rect.unit (s := S2x8x128) ![1, 0, 0] S1x8x128.size inb_S2x8x128_S1x8x128_1_0_0).toLoadRect (harg13.unread xs2)) := by sl_kernel_rfl

/-- After the first point the body's stores of block scales are `sbPieces` of what it loads. -/
theorem run_sb_B (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1 = sbPieces (View.readAt (Elt F) arg11.view (Rect.unit (s := S256x256) ![0, 0] S256x256.size inb_S256x256_S256x256_0_0).toLoadRect (harg11.unread xs0)) (fun t ht => View.readAt (Elt F) arg5.view (xRect t ht).toLoadRect (harg5.unread x2)) (View.readAt (Elt F) arg13.view (Rect.unit (s := S2x8x128) ![1, 0, 0] S1x8x128.size inb_S2x8x128_S1x8x128_1_0_0).toLoadRect (harg13.unread xs2)) := by sl_kernel_rfl

/-- At the first point the body's stores of block maxima are `amaxPieces` of what it loads. -/
theorem run_amax_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    (kernelRun0_A c i arg3 harg3 arg4 harg4 arg5 harg5 arg6 harg6 arg7 harg7 arg8 harg8 arg9 harg9 arg10 harg10 arg11 harg11 arg12 harg12 arg13 harg13 hc0 x0 x1 x2 x3).1 = amaxPieces (kernelRun0_A.sl.v57 c arg4 harg4 arg11 x1) (fun t ht => View.readAt (Elt F) arg5.view (xRect t ht).toLoadRect (harg5.unread x2)) := by sl_kernel_rfl

/-- At the first point the body's stores of codes are `codesPieces` of what it loads. -/
theorem run_codes_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    (kernelRun0_A c i arg3 harg3 arg4 harg4 arg5 harg5 arg6 harg6 arg7 harg7 arg8 harg8 arg9 harg9 arg10 harg10 arg11 harg11 arg12 harg12 arg13 harg13 hc0 x0 x1 x2 x3).2.1 = codesPieces (kernelRun0_A.sl.v57 c arg4 harg4 arg11 x1) (kernelRun0_A.sl.v64 c arg12)
      (fun t ht => View.readAt (Elt F) arg5.view (xRect t ht).toLoadRect (harg5.unread x2))
      (fun t ht => View.readAt (Elt F) arg6.view (rRect t ht).toLoadRect (harg6.unread x3))
      (kernelRun0_A.sl.v7 c arg3 harg3 arg13 x0)
      (kernelRun0_A.sl.v10 c arg3 harg3 arg13 x0) := by sl_kernel_rfl

/-- At the first point the body's stores of block scales are `sbPieces` of what it loads. -/
theorem run_sb_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    (kernelRun0_A c i arg3 harg3 arg4 harg4 arg5 harg5 arg6 harg6 arg7 harg7 arg8 harg8 arg9 harg9 arg10 harg10 arg11 harg11 arg12 harg12 arg13 harg13 hc0 x0 x1 x2 x3).2.2.1 = sbPieces (kernelRun0_A.sl.v57 c arg4 harg4 arg11 x1) (fun t ht => View.readAt (Elt F) arg5.view (xRect t ht).toLoadRect (harg5.unread x2)) (kernelRun0_A.sl.v10 c arg3 harg3 arg13 x0) := by sl_kernel_rfl

/-- The first point's stores to the Hadamard matrix's scratch. -/
theorem run_h_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    (kernelRun0_A c i arg3 harg3 arg4 harg4 arg5 harg5 arg6 harg6 arg7 harg7 arg8 harg8 arg9 harg9 arg10 harg10 arg11 harg11 arg12 harg12 arg13 harg13 hc0 x0 x1 x2 x3).2.2.2.2.1 = kernelRun0_A.sl.HS0_1 c arg4 harg4 x1 := by sl_kernel_rfl

/-- The first point's stores to the permutation's scratch. -/
theorem run_p_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1 = kernelRun0_A.sl.HS1_1 := by sl_kernel_rfl

/-- The first point's stores to the constants' scratch. -/
theorem run_c_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1 = kernelRun0_A.sl.HS2_2 c arg3 harg3 x0 := by sl_kernel_rfl

/-- The numbers 0 to 255 along the rows of a square of 256. -/
def colNo : IVec S256x256 32 := iota .tc S256x256 32 [1] iota_S256x256_d1_w32

/-- The signed Hadamard matrix of every block of sixteen tokens, as the first point computes it from the signs. -/
def hMat (g : Vec F S1x256 .f32) : FVec F S256x256 .bf16 :=
  k0_pay7 colNo k0_pay2 (k0_pay3 colNo k0_pay1 16#32 g) 16#32 (k0_pay4 colNo) (k0_pay5 colNo) (k0_pay6 colNo)

/-- The permutation that brings the tokens of a tile to the order of the Hadamard matrix's rows, scaled. -/
def pMat : FVec F S256x256 .bf16 := k0_pay8 colNo k0_pay1 k0_pay2

/-- The tensor scale, in every entry of a row of the constants. -/
def tsRow (a : Elt F .f32) : FVec F S1x8x128 .f32 := k0_pay14 (k0_pay10 a) (k0_pay11 a) k0_pay12

/-- The reciprocal of six times the tensor scale, in every entry of a row of the constants. -/
def rkRow (a : Elt F .f32) : FVec F S1x8x128 .f32 := k0_pay15 (k0_pay10 a) (k0_pay11 a) k0_pay12

/-- The tensor scale alone. -/
def tsOne (a : Elt F .f32) : FVec F S1x1 .f32 := k0_pay16 (k0_pay10 a) (k0_pay11 a) k0_pay12

/-- A load of a whole square of 256 reads it. -/
theorem ld_whole {Val : EltTy → Type} {e : EltTy} (X : S256x256.Idx → Val e) :
    View.ld X (Rect.unit (s := S256x256) ![0, 0] S256x256.size inb_S256x256_S256x256_0_0) = X :=
  funext fun j => View.ld_unit_apply_of X _ _ _ j j fun a => by fin_cases a <;> exact (Nat.zero_add _).symm

/-- A load of all the signs reads them. -/
theorem ld_signs {Val : EltTy → Type} {e : EltTy} (X : S1x256.Idx → Val e) :
    View.ld X (Rect.unit (s := S1x256) ![0, 0] S1x256.size inb_S1x256_S1x256_0_0) = X :=
  funext fun j => View.ld_unit_apply_of X _ _ _ j j fun a => by fin_cases a <;> exact (Nat.zero_add _).symm

/-- A load of a single entry reads it. -/
theorem ld_one {Val : EltTy → Type} {e : EltTy} (X : S1x1.Idx → Val e) :
    View.ld X (Rect.unit (s := S1x1) ![0, 0] S1x1.size inb_S1x1_S1x1_0_0) = X :=
  funext fun j => View.ld_unit_apply_of X _ _ _ j j fun a => by fin_cases a <;> exact (Nat.zero_add _).symm

/-- The first row of the constants. -/
def row0 (X : Vec F S2x8x128 .f32) : Vec F S1x8x128 .f32 := View.ld X (Rect.unit (s := S2x8x128) ![0, 0, 0] S1x8x128.size inb_S2x8x128_S1x8x128_0_0_0)

/-- The second row of the constants. -/
def row1 (X : Vec F S2x8x128 .f32) : Vec F S1x8x128 .f32 := View.ld X (Rect.unit (s := S2x8x128) ![1, 0, 0] S1x8x128.size inb_S2x8x128_S1x8x128_1_0_0)

/-- A block of one entry has one. -/
theorem one_pos : 0 < S1x1.numel := by decide

/-- The only entry of the previous maximum's block. -/
def apOf (X : Vec F S1x1 .f32) : Elt F .f32 := X (Shape.Idx.first one_pos)

/-- The Hadamard scratch after the first point is `hMat` of the signs. -/
theorem canon_h (c : Dev nD) (arg4 : Memref sig .tc .vmem S1x256 .f32) (harg4 : arg4.IsWhole) (x1 : Vec F S1x256 .f32) :
    View.canon (kernelRun0_A.sl.HS0_1 c arg4 harg4 x1) = hMat x1 := by
  have h : kernelRun0_A.sl.HS0_1 c arg4 harg4 x1 = [⟨Rect.unit (s := S256x256) ![0, 0] S256x256.size inb_S256x256_S256x256_0_0,
      hMat (View.readAt (Elt F) arg4.view (Rect.unit (s := S1x256) ![0, 0] S1x256.size inb_S1x256_S1x256_0_0).toLoadRect (harg4.unread x1))⟩] := by
    sl_kernel_rfl
  rw [h, View.readAt_eq_ld, Memref.IsWhole.read_unread, ld_signs]
  refine (ld_whole _).symm.trans (funext fun j => ?_)
  exact View.canon_cons_emb _ _ _ j

/-- The permutation scratch after the first point is `pMat`. -/
theorem canon_p : View.canon (kernelRun0_A.sl.HS1_1 (F := F)) = pMat := by
  have h : kernelRun0_A.sl.HS1_1 (F := F) = [⟨Rect.unit (s := S256x256) ![0, 0] S256x256.size inb_S256x256_S256x256_0_0, pMat⟩] := by
    sl_kernel_rfl
  rw [h]
  refine (ld_whole _).symm.trans (funext fun j => ?_)
  exact View.canon_cons_emb _ _ _ j

/-- The body's read of the earlier maximum is its block's only entry. -/
theorem smem_entry (arg3 : Memref sig .tc .smem S1x1 .f32) (harg3 : arg3.IsWhole) (x0 : Vec F S1x1 .f32) :
    View.readAt (Elt F) arg3.view (Rect.unit (s := S1x1) ![0, 0] S1x1.size inb_S1x1_S1x1_0_0).toLoadRect (harg3.unread x0)
      (Shape.Idx.first one_pos) = apOf x0 := by
  rw [View.readAt_eq_ld, Memref.IsWhole.read_unread]
  exact View.ld_unit_apply_of x0 _ _ _ _ _ fun a => by fin_cases a <;> exact (Nat.zero_add _).symm

/-- The first point's stores to the constants: the reciprocal's row over the tensor scale's. -/
theorem pieces_c (c : Dev nD) (arg3 : Memref sig .tc .smem S1x1 .f32) (harg3 : arg3.IsWhole) (x0 : Vec F S1x1 .f32) :
    kernelRun0_A.sl.HS2_2 c arg3 harg3 x0 = [⟨Rect.unit (s := S2x8x128) ![1, 0, 0] S1x8x128.size inb_S2x8x128_S1x8x128_1_0_0, rkRow (apOf x0)⟩,
      ⟨Rect.unit (s := S2x8x128) ![0, 0, 0] S1x8x128.size inb_S2x8x128_S1x8x128_0_0_0, tsRow (apOf x0)⟩] := by
  rw [← smem_entry arg3 harg3 x0]
  sl_kernel_rfl

/-- The second row of the constants at an index. -/
theorem row1_apply (X : Vec F S2x8x128 .f32) (j : S1x8x128.Idx) :
    row1 X j = X ((Rect.unit (s := S2x8x128) ![1, 0, 0] S1x8x128.size inb_S2x8x128_S1x8x128_1_0_0).emb j) := rfl

/-- The first row of the constants at an index. -/
theorem row0_apply (X : Vec F S2x8x128 .f32) (j : S1x8x128.Idx) :
    row0 X j = X ((Rect.unit (s := S2x8x128) ![0, 0, 0] S1x8x128.size inb_S2x8x128_S1x8x128_0_0_0).emb j) := rfl

/-- A last store to the second row is what that row holds. -/
theorem row1_canon (w1 : Vec F S1x8x128 .f32) (L : List (View.Piece (Elt F) S2x8x128 .f32)) :
    row1 (View.canon (⟨Rect.unit (s := S2x8x128) ![1, 0, 0] S1x8x128.size inb_S2x8x128_S1x8x128_1_0_0, w1⟩ :: L)) = w1 := by
  funext j
  rw [row1_apply, View.canon_cons_emb]

/-- A store to the second row leaves the first as it was stored. -/
theorem row0_canon (w1 w0 : Vec F S1x8x128 .f32) (L : List (View.Piece (Elt F) S2x8x128 .f32)) :
    row0 (View.canon (⟨Rect.unit (s := S2x8x128) ![1, 0, 0] S1x8x128.size inb_S2x8x128_S1x8x128_1_0_0, w1⟩ ::
      ⟨Rect.unit (s := S2x8x128) ![0, 0, 0] S1x8x128.size inb_S2x8x128_S1x8x128_0_0_0, w0⟩ :: L)) = w0 := by
  funext j
  rw [row0_apply, View.canon_cons_of_not_mem, View.canon_cons_emb]
  intro hm
  obtain ⟨x, hx⟩ := (Rect.unit (s := S2x8x128) ![1, 0, 0] S1x8x128.size inb_S2x8x128_S1x8x128_1_0_0).exists_idx_of_mem hm
  have h0 : ((1 : Nat) + 1 * (x 0 : Nat)) = 0 + 1 * (j 0 : Nat) := congrArg (fun i : S2x8x128.Idx => (i 0 : Nat)) hx
  have : (j 0 : Nat) < 1 := (j 0).isLt
  omega

/-- After the first point the constants' second row is `rkRow`. -/
theorem canon_row1 (c : Dev nD) (arg3 : Memref sig .tc .smem S1x1 .f32) (harg3 : arg3.IsWhole) (x0 : Vec F S1x1 .f32) :
    row1 (View.canon (kernelRun0_A.sl.HS2_2 c arg3 harg3 x0)) = rkRow (apOf x0) := by
  rw [pieces_c]
  exact row1_canon _ _

/-- After the first point the constants' first row is `tsRow`. -/
theorem canon_row0 (c : Dev nD) (arg3 : Memref sig .tc .smem S1x1 .f32) (harg3 : arg3.IsWhole) (x0 : Vec F S1x1 .f32) :
    row0 (View.canon (kernelRun0_A.sl.HS2_2 c arg3 harg3 x0)) = tsRow (apOf x0) := by
  rw [pieces_c]
  exact row0_canon _ _ _

/-- A load of a whole scratch square reads its contents. -/
theorem rd_whole (M : Memref sig .tc .vmem S256x256 .bf16) (hM : M.IsWhole) (X : Vec F S256x256 .bf16) :
    View.readAt (Elt F) M.view (Rect.unit (s := S256x256) ![0, 0] S256x256.size inb_S256x256_S256x256_0_0).toLoadRect (hM.unread X) = X := by
  rw [View.readAt_eq_ld, Memref.IsWhole.read_unread]
  exact ld_whole (Val := Elt F) (e := .bf16) X

/-- The loads of x from its block are its tiles. -/
theorem rd_x (M : Memref sig .tc .vmem S1x2048x256 .bf16) (hM : M.IsWhole) (X : Vec F S1x2048x256 .bf16) :
    (fun t ht => View.readAt (Elt F) M.view (xRect t ht).toLoadRect (hM.unread X)) = xTiles X := by
  funext t ht
  rw [View.readAt_eq_ld, Memref.IsWhole.read_unread]
  rfl

/-- The loads of random bytes from their block are its tiles. -/
theorem rd_r (M : Memref sig .tc .vmem S1x256x2048 .i8) (hM : M.IsWhole) (X : Vec F S1x256x2048 .i8) :
    (fun t ht => View.readAt (Elt F) M.view (rRect t ht).toLoadRect (hM.unread X)) = rTiles X := by
  funext t ht
  rw [View.readAt_eq_ld, Memref.IsWhole.read_unread]
  rfl

/-- The load of the first row of the constants. -/
theorem rd_row0 (M : Memref sig .tc .vmem S2x8x128 .f32) (hM : M.IsWhole) (X : Vec F S2x8x128 .f32) :
    View.readAt (Elt F) M.view (Rect.unit (s := S2x8x128) ![0, 0, 0] S1x8x128.size inb_S2x8x128_S1x8x128_0_0_0).toLoadRect (hM.unread X) = row0 X := by
  rw [View.readAt_eq_ld, Memref.IsWhole.read_unread]
  rfl

/-- The load of the second row of the constants. -/
theorem rd_row1 (M : Memref sig .tc .vmem S2x8x128 .f32) (hM : M.IsWhole) (X : Vec F S2x8x128 .f32) :
    View.readAt (Elt F) M.view (Rect.unit (s := S2x8x128) ![1, 0, 0] S1x8x128.size inb_S2x8x128_S1x8x128_1_0_0).toLoadRect (hM.unread X) = row1 X := by
  rw [View.readAt_eq_ld, Memref.IsWhole.read_unread]
  rfl

/-- Block 4's stores, read back. -/
theorem canon_out_B4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    out0_B_4 c i arg3 harg3 arg4 harg4 arg5 harg5 arg6 harg6 arg7 harg7 arg8 harg8 arg9 harg9 arg10 harg10 arg11 harg11 arg12 harg12 arg13 harg13 hc0 x0 x1 x2 x3 xs0 xs1 xs2 = View.canon (amaxPieces xs0 (xTiles x2)) := by
  unfold out0_B_4
  rw [View.read_writes_junk_eq_canon, run_amax_B, rd_whole, rd_x]

/-- Block 5's stores, read back. -/
theorem canon_out_B5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    out0_B_5 c i arg3 harg3 arg4 harg4 arg5 harg5 arg6 harg6 arg7 harg7 arg8 harg8 arg9 harg9 arg10 harg10 arg11 harg11 arg12 harg12 arg13 harg13 hc0 x0 x1 x2 x3 xs0 xs1 xs2 = View.canon (codesPieces xs0 xs1 (xTiles x2) (rTiles x3) (row0 xs2) (row1 xs2)) := by
  unfold out0_B_5
  rw [View.read_writes_junk_eq_canon, run_codes_B, rd_whole, rd_whole, rd_x, rd_r, rd_row0, rd_row1]

/-- Block 6's stores, read back. -/
theorem canon_out_B6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    out0_B_6 c i arg3 harg3 arg4 harg4 arg5 harg5 arg6 harg6 arg7 harg7 arg8 harg8 arg9 harg9 arg10 harg10 arg11 harg11 arg12 harg12 arg13 harg13 hc0 x0 x1 x2 x3 xs0 xs1 xs2 = View.canon (sbPieces xs0 (xTiles x2) (row1 xs2)) := by
  unfold out0_B_6
  rw [View.read_writes_junk_eq_canon, run_sb_B, rd_whole, rd_x, rd_row1]

/-- At the first point the load of the Hadamard scratch reads `hMat` of the signs. -/
theorem load_h (c : Dev nD) (arg4 : Memref sig .tc .vmem S1x256 .f32) (harg4 : arg4.IsWhole) (arg11 : Memref sig .tc .vmem S256x256 .bf16) (x1 : Vec F S1x256 .f32) :
    kernelRun0_A.sl.v57 c arg4 harg4 arg11 x1 = hMat x1 := by
  unfold kernelRun0_A.sl.v57
  rw [View.readCov_eq_canon', canon_h]
  exact ld_whole (Val := Elt F) (e := .bf16) (hMat x1)

/-- At the first point the load of the permutation scratch reads `pMat`. -/
theorem load_p (c : Dev nD) (arg12 : Memref sig .tc .vmem S256x256 .bf16) : kernelRun0_A.sl.v64 (F := F) c arg12 = pMat := by
  unfold kernelRun0_A.sl.v64
  rw [View.readCov_eq_canon', canon_p]
  exact ld_whole (Val := Elt F) (e := .bf16) pMat

/-- At the first point the load of the first row reads `tsRow`. -/
theorem load_ts (c : Dev nD) (arg3 : Memref sig .tc .smem S1x1 .f32) (harg3 : arg3.IsWhole) (arg13 : Memref sig .tc .vmem S2x8x128 .f32) (x0 : Vec F S1x1 .f32) :
    kernelRun0_A.sl.v7 c arg3 harg3 arg13 x0 = tsRow (apOf x0) := by
  unfold kernelRun0_A.sl.v7
  rw [View.readCov_eq_canon']
  exact canon_row0 c arg3 harg3 x0

/-- At the first point the load of the second row reads `rkRow`. -/
theorem load_rk (c : Dev nD) (arg3 : Memref sig .tc .smem S1x1 .f32) (harg3 : arg3.IsWhole) (arg13 : Memref sig .tc .vmem S2x8x128 .f32) (x0 : Vec F S1x1 .f32) :
    kernelRun0_A.sl.v10 c arg3 harg3 arg13 x0 = rkRow (apOf x0) := by
  unfold kernelRun0_A.sl.v10
  rw [View.readCov_eq_canon']
  exact canon_row1 c arg3 harg3 x0

/-- Block 4's stores at the first point, read back. -/
theorem canon_out_A4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    out0_A_4 c i arg3 harg3 arg4 harg4 arg5 harg5 arg6 harg6 arg7 harg7 arg8 harg8 arg9 harg9 arg10 harg10 arg11 harg11 arg12 harg12 arg13 harg13 hc0 x0 x1 x2 x3 = View.canon (amaxPieces (hMat x1) (xTiles x2)) := by
  unfold out0_A_4
  rw [View.read_writes_junk_eq_canon, run_amax_A, load_h, rd_x]

/-- Block 5's stores at the first point, read back. -/
theorem canon_out_A5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    out0_A_5 c i arg3 harg3 arg4 harg4 arg5 harg5 arg6 harg6 arg7 harg7 arg8 harg8 arg9 harg9 arg10 harg10 arg11 harg11 arg12 harg12 arg13 harg13 hc0 x0 x1 x2 x3 = View.canon (codesPieces (hMat x1) pMat (xTiles x2) (rTiles x3) (tsRow (apOf x0)) (rkRow (apOf x0))) := by
  unfold out0_A_5
  rw [View.read_writes_junk_eq_canon, run_codes_A, load_h, load_p, load_ts, load_rk, rd_x, rd_r]

/-- Block 6's stores at the first point, read back. -/
theorem canon_out_A6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    out0_A_6 c i arg3 harg3 arg4 harg4 arg5 harg5 arg6 harg6 arg7 harg7 arg8 harg8 arg9 harg9 arg10 harg10 arg11 harg11 arg12 harg12 arg13 harg13 hc0 x0 x1 x2 x3 = View.canon (sbPieces (hMat x1) (xTiles x2) (rkRow (apOf x0))) := by
  unfold out0_A_6
  rw [View.read_writes_junk_eq_canon, run_sb_A, load_h, load_rk, rd_x]

/-- The tensor scale's block at the first point. -/
theorem out_A7 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    out0_A_7 c i arg3 harg3 arg4 harg4 arg5 harg5 arg6 harg6 arg7 harg7 arg8 harg8 arg9 harg9 arg10 harg10 arg11 harg11 arg12 harg12 arg13 harg13 hc0 x0 x1 x2 x3 = tsOne (apOf x0) := by
  unfold out0_A_7
  have h : (kernelRun0_A c i arg3 harg3 arg4 harg4 arg5 harg5 arg6 harg6 arg7 harg7 arg8 harg8 arg9 harg9 arg10 harg10 arg11 harg11 arg12 harg12 arg13 harg13 hc0 x0 x1 x2 x3).2.2.2.1 = [⟨Rect.unit (s := S1x1) ![0, 0] S1x1.size inb_S1x1_S1x1_0_0, tsOne (apOf x0)⟩] := by
    rw [← smem_entry arg3 harg3 x0]
    sl_kernel_rfl
  rw [View.read_writes_junk_eq_canon, h]
  refine (ld_one _).symm.trans (funext fun j => ?_)
  exact View.canon_cons_emb _ _ _ j

variable (m : (ℓ : Loc nD τ sig) → Buf (Elt F) ℓ) (ρ : Dev nD → PrngReg)

/-- What the first point leaves in the Hadamard scratch. -/
theorem S0_eq (c : Dev nD) : S0 m c = hMat (iblk m c 1 t0) := by
  unfold S0 sout0_A_0
  rw [View.read_writes_junk_eq_canon, run_h_A, canon_h]

/-- What the first point leaves in the permutation scratch. -/
theorem S1_eq (c : Dev nD) : S1 m c = pMat := by
  unfold S1 sout0_A_1
  rw [View.read_writes_junk_eq_canon, run_p_A, canon_p]

/-- What the first point leaves in the constants' first row. -/
theorem S2_row0 (c : Dev nD) : row0 (S2 m c) = tsRow (apOf (iblk m c 0 t0)) := by
  unfold S2 sout0_A_2
  rw [View.read_writes_junk_eq_canon, run_c_A, canon_row0]

/-- What the first point leaves in the constants' second row. -/
theorem S2_row1 (c : Dev nD) : row1 (S2 m c) = rkRow (apOf (iblk m c 0 t0)) := by
  unfold S2 sout0_A_2
  rw [View.read_writes_junk_eq_canon, run_c_A, canon_row1]

/-- What the first point leaves in the tensor scale's block. -/
theorem T7_eq (c : Dev nD) : T7 m c = tsOne (apOf (iblk m c 0 t0)) := by
  unfold T7
  rw [out_A7]

/-- The only point whose number is a multiple of 192 is the first. -/
theorem eq_t0 (t : Fin cfg0.N) (h : t.val % 192 = 0) : t = t0 :=
  Fin.ext (by have h' : t.val < 192 := lt_of_lt_of_eq t.isLt N_0; show t.val = 0; omega)

/-- The block of the maxima at any point. -/
theorem at4_eq (c : Dev nD) (t : Fin cfg0.N) : at4 m c t = View.canon (amaxPieces (hMat (iblk m c 1 t0)) (xTiles (iblk m c 2 t))) := by
  unfold at4
  split
  · next h => obtain rfl := eq_t0 t h; rw [canon_out_A4]
  · rw [canon_out_B4, S0_eq]

/-- The block of the codes at any point. -/
theorem at5_eq (c : Dev nD) (t : Fin cfg0.N) : at5 m c t = View.canon (codesPieces (hMat (iblk m c 1 t0)) pMat (xTiles (iblk m c 2 t))
    (rTiles (iblk m c 3 t)) (tsRow (apOf (iblk m c 0 t0))) (rkRow (apOf (iblk m c 0 t0)))) := by
  unfold at5
  split
  · next h => obtain rfl := eq_t0 t h; rw [canon_out_A5]
  · rw [canon_out_B5, S0_eq, S1_eq, S2_row0, S2_row1]

/-- The block of the block scales at any point. -/
theorem at6_eq (c : Dev nD) (t : Fin cfg0.N) : at6 m c t = View.canon (sbPieces (hMat (iblk m c 1 t0)) (xTiles (iblk m c 2 t))
    (rkRow (apOf (iblk m c 0 t0)))) := by
  unfold at6
  split
  · next h => obtain rfl := eq_t0 t h; rw [canon_out_A6]
  · rw [canon_out_B6, S0_eq, S2_row1]

end Cert.KernelIdeal.Live

end
-- ==== Proof.Math.Spec.lean ====
/- The quantiser's scalar arithmetic over the extended reals, one definition to a step: what the kernel and the reference
   are both read as. -/
module

public import Idealize.ShloMosaic.Lib.Pointwise

@[expose] public section

noncomputable section

namespace Cert.Quant

open Idealize.ShloMosaic

/-- The float32 constant of a word. -/
abbrev cst (b : BitVec 32) : EReal := Ideal.ofBits .f32 b

/-- The pattern of minus infinity. -/
theorem negInf : Ideal.ofBits .f32 0xFF800000#32 = (⊥ : EReal) := by
  simp [Ideal.ofBits, Ideal.ieee]

/-- The tensor scale: the previous maximum over 2688, one where that maximum is not positive. -/
def tsOf (a : EReal) : EReal := if 0 < a then Ideal.div a (cst 1160249344#32) else 1

/-- The reciprocal of six times the tensor scale. -/
def rkOf (a : EReal) : EReal := Ideal.div 1 (cst 1086324736#32 * tsOf a)

/-- The block scale of a block maximum, as the kernel multiplies it out. -/
def sbOf (amax rk : EReal) : EReal := min (amax * rk) (cst 1138753536#32)

/-- The decode scale the kernel divides by: 2^116 where the scale is not positive. -/
def decOf (amax ts rk : EReal) : EReal := if 0 < sbOf amax rk * ts then sbOf amax rk * ts else cst 2038431744#32

/-- The reciprocal of 256 times the decode scale. -/
def invOf (d : EReal) : EReal := Ideal.div 1 (d * cst 1132462080#32)

/-- The greatest magnitude of a block of sixteen. -/
def amaxOf (f : Fin 16 → EReal) : EReal := Finset.univ.fold max ⊥ fun i => max (f i) (-(f i))

/-- The scaled magnitude, held at 2^-4. -/
def scaled (w d i : EReal) : EReal := min ((max w (-w) + max (max w (-w)) d) * i) (cst 1031798784#32)

/-- One line: a power of two times the scaled magnitude, rounded up, plus an offset. -/
def lineOf (x : EReal) (s : EReal) (o : BitVec 32) : BitVec 32 :=
  IntOp.addi (FloatOps.fptosi (F := Ideal) (φ := .f32) 32 (Ideal.liftRound Int.ceil (x * s))) o

/-- The word of the scaled magnitude: the least of four lines. -/
def magOf (x : EReal) : BitVec 32 :=
  IntOp.minsi (IntOp.minsi (IntOp.minsi (lineOf x (cst 1325400064#32) 989855744#32) (lineOf x (cst 1317011456#32) 998244352#32))
    (lineOf x (cst 1308622848#32) 1006632960#32)) (lineOf x (cst 1300234240#32) 1015021568#32)

/-- The word of the biased random value. -/
def rndOf (r : EReal) : BitVec 32 :=
  IntOp.addi (FloatOps.fptosi (F := Ideal) (φ := .f32) 32 ((r + cst 108519423#32) * cst 2030043136#32 * cst 1258291200#32)) 92274688#32

/-- The byte a word rounds to. -/
def roundOf (v : BitVec 32) : BitVec 8 :=
  BitVec.setWidth 8 (IntOp.minsi (IntOp.subi (IntOp.shrsi .vector (IntOp.addi (IntOp.addi v 524287#32)
    (IntOp.andi (IntOp.shrsi .vector v 20#32) 1#32)) 20#32) 960#32) 127#32)

/-- The byte of a weight's magnitude. -/
def magByteOf (w r d i : EReal) : BitVec 8 := roundOf (IntOp.addi (magOf (scaled w d i)) (rndOf r))

/-- The byte of a weight's sign. -/
def sgnByteOf (w : EReal) : BitVec 8 := if w < 0 then 128#8 else 0#8

/-- Two magnitude bytes and two sign bytes as one byte of two codes. -/
def codeByte (m0 m1 s0 s1 : BitVec 8) : BitVec 8 :=
  let n := ((m0 >>> 2) &&& 0x0F#8) ||| ((m1 <<< 2) &&& 0xF0#8)
  let s := ((s0 >>> 4) &&& 0x08#8) ||| (s1 &&& 0x80#8)
  ((n - 0x77#8) - (((n - 0x77#8) >>> 3) &&& 0x11#8)) ||| (s &&& n)

/-- The parity of the bits that two numbers below sixteen share. -/
def par (i j : Nat) : Nat := ((i &&& j) ^^^ ((i &&& j) >>> 1) ^^^ ((i &&& j) >>> 2) ^^^ ((i &&& j) >>> 3)) &&& 1

/-- An entry of the signed Hadamard matrix. -/
def had (i j : Nat) (g : EReal) : EReal := cst 1048576000#32 * (1 - cst 1073741824#32 * ((par i j : ℝ) : EReal)) * g

/-- The scale of the random bytes. -/
def rStep : EReal := cst 2172649472#32

/-- The reference's block scale: the block maximum over six times the tensor scale. -/
def sbRef (amax ts : EReal) : EReal := min (Ideal.div amax (cst 1086324736#32 * ts)) (cst 1138753536#32)

/-- The reference's scaled weight, clipped to [-6, 6]; nought where the decode scale is not positive. -/
def clipOf (w dec : EReal) : EReal :=
  min (cst 1086324736#32) (max (cst 3233808384#32) (if 0 < dec then Ideal.div w (if 0 < dec then dec else 1) else 0))

/-- The step of the code's grid at a magnitude. -/
def stepOf (v : EReal) : EReal :=
  if v < cst 1073741824#32 then cst 1056964608#32 else if v < cst 1082130432#32 then 1 else cst 1073741824#32

/-- The magnitude rounded down to the grid, and up where the random byte asks for it. -/
def roundRef (v s : EReal) (r : BitVec 8) : EReal :=
  Ideal.liftRound Int.floor (Ideal.div v s) * s
    + s * FloatOps.sitofp (F := Ideal) .f32 (BitVec.setWidth 32 (BitVec.ofBool (decide
      (FloatOps.uitofp (F := Ideal) .f32 r + cst 1056964608#32 < Ideal.div (v - Ideal.liftRound Int.floor (Ideal.div v s) * s) s * cst 1132462080#32))))

/-- The index of a magnitude on the grid. -/
def idxRef (q : EReal) : EReal :=
  if q < cst 1073741824#32 then cst 1073741824#32 * q else if q < cst 1082130432#32 then q + cst 1073741824#32
  else cst 1056964608#32 * q + cst 1082130432#32

/-- The reference's index byte of a clipped weight. -/
def byteRef (y : EReal) (r : BitVec 8) : BitVec 8 :=
  FloatOps.fptoui (F := Ideal) (φ := .f32) 8 (idxRef (roundRef (max y (-y)) (stepOf (max y (-y))) r))

/-- The reference's code of a clipped weight. -/
def nibRef (y : EReal) (r : BitVec 8) : BitVec 8 :=
  if y < 0 ∧ 0#8 < byteRef y r then byteRef y r ||| 8#8 else byteRef y r

end Cert.Quant

end
-- ==== Proof.Live.Mats.lean ====
/- The two matrices of a tile at an index. -/
module

public import proofs.«01_k».proof.Proof.Live.Pieces
public import proofs.«01_k».proof.Proof.Math.Spec

@[expose] public section

set_option maxRecDepth 16384

noncomputable section

namespace Cert.KernelIdeal.Live

open Idealize.ShloMosaic Idealize.ShloMosaic.Tactic Idealize.ShloMosaic.Pointwise
open Cert.KernelIdeal.Gen Cert.Quant
open scoped BigOperators

/-- A row's number over sixteen. -/
theorem pay1_apply (r k : Fin 256) : k0_pay1 (ix2 r k) = BitVec.ofNat 32 (r.val / 16) := by
  pointwise [k0_pay1]
  revert r
  decide +kernel

/-- A row's number modulo sixteen. -/
theorem pay2_apply (r k : Fin 256) : k0_pay2 (ix2 r k) = BitVec.ofNat 32 (r.val % 16) := by
  pointwise [k0_pay2]
  revert r
  decide +kernel

/-- A column's number. -/
theorem colNo_apply (r k : Fin 256) : colNo (ix2 r k) = BitVec.ofNat 32 k.val := by
  pointwise [colNo]

/-- Whether two words below 256 are one. -/
theorem eq_word (a b : Nat) (ha : a < 256) (hb : b < 256) :
    IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (by
      have := congrArg BitVec.toNat e
      simp only [BitVec.toNat_ofNat] at this
      omega)
    rw [if_neg h]
    show BitVec.ofBool (BitVec.ofNat 32 a == BitVec.ofNat 32 b) = 0#1
    rw [beq_eq_false_iff_ne.mpr this]
    rfl

/-- The row number a row takes its random bytes from. -/
theorem perm_row (r : Fin 256) : IntOp.addi (IntOp.muli (BitVec.ofNat 32 (r.val % 16)) 16#32) (BitVec.ofNat 32 (r.val / 16))
    = BitVec.ofNat 32 (r.val % 16 * 16 + r.val / 16) := by
  revert r
  decide +kernel

/-- The permutation matrix at an index. -/
theorem pMat_apply (r k : Fin 256) : pMat (F := Ideal) (ix2 r k) = if k.val = r.val % 16 * 16 + r.val / 16 then rStep else 0 := by
  pointwise [pMat, k0_pay8]
  simp only [pay1_apply, pay2_apply, colNo_apply]
  rw [perm_row, eq_word _ _ (by omega) (by omega)]
  split_ifs <;> rfl

/-- A column's number over sixteen, as the body computes it. -/
theorem col_div (k : Fin 256) : (Scalar.select
          (IntOp.andi
            (IntOp.cmpi CmpIPredicate.ne
              (IntOp.subi (BitVec.setWidth 32 (IntOp.cmpi CmpIPredicate.sgt (BitVec.ofNat 32 k.val) 0#32))
                (BitVec.setWidth 32 (IntOp.cmpi CmpIPredicate.slt (BitVec.ofNat 32 k.val) 0#32)))
              (Scalar.subi (Scalar.extui (Scalar.cmpi CmpIPredicate.sgt 16#32 0#32))
                (Scalar.extui (Scalar.cmpi CmpIPredicate.slt 16#32 0#32))))
            (IntOp.cmpi CmpIPredicate.ne (IntOp.remsi ArithUnit.vector (BitVec.ofNat 32 k.val) 16#32) 0#32))
          (IntOp.subi (IntOp.divsi ArithUnit.vector (BitVec.ofNat 32 k.val) 16#32) 1#32)
          (IntOp.divsi ArithUnit.vector (BitVec.ofNat 32 k.val) 16#32)) = BitVec.ofNat 32 (k.val / 16) := by
  revert k
  decide +kernel

/-- A column's number modulo sixteen, as the body computes it. -/
theorem col_mod (k : Fin 256) : (Scalar.select
                            (IntOp.andi
                              (IntOp.xori
                                (IntOp.cmpi CmpIPredicate.slt (IntOp.remsi ArithUnit.vector (BitVec.ofNat 32 k.val) 16#32)
                                  0#32)
                                (Scalar.cmpi CmpIPredicate.slt 16#32 0#32))
                              (IntOp.cmpi CmpIPredicate.ne (IntOp.remsi ArithUnit.vector (BitVec.ofNat 32 k.val) 16#32)
                                0#32))
                            (IntOp.addi (IntOp.remsi ArithUnit.vector (BitVec.ofNat 32 k.val) 16#32) 16#32)
                            (IntOp.remsi ArithUnit.vector (BitVec.ofNat 32 k.val) 16#32)) = BitVec.ofNat 32 (k.val % 16) := by
  revert k
  decide +kernel

/-- The parity word of a row and a column. -/
theorem par_word (i j : Fin 16) : ((IntOp.andi
                  (IntOp.xori
                    (IntOp.xori
                      (IntOp.xori
                        (IntOp.andi (BitVec.ofNat 32 i.val) (BitVec.ofNat 32 j.val))
                        (IntOp.shrsi ArithUnit.vector (IntOp.andi (BitVec.ofNat 32 i.val) (BitVec.ofNat 32 j.val)) 1#32))
                      (IntOp.shrsi ArithUnit.vector (IntOp.andi (BitVec.ofNat 32 i.val) (BitVec.ofNat 32 j.val)) 2#32))
                    (IntOp.shrsi ArithUnit.vector (IntOp.andi (BitVec.ofNat 32 i.val) (BitVec.ofNat 32 j.val)) 3#32))
                  1#32)).toInt = (par i.val j.val : Int) := by
  revert i j
  decide +kernel

/-- The Hadamard matrix at an index. -/
theorem hMat_apply (g : Vec Ideal S1x256 .f32) (r k : Fin 256) :
    hMat g (ix2 r k) = if k.val / 16 = r.val % 16 then had (r.val / 16) (k.val % 16) (g (ix2 0 k)) else 0 := by
  pointwise [hMat, k0_pay7, k0_pay3, k0_pay4, k0_pay5, k0_pay6]
  simp only [pay1_apply, pay2_apply, colNo_apply]
  rw [col_div, col_mod, eq_word _ _ (by omega) (by omega)]
  have e : ∀ b : BitVec 32, (FloatOps.sitofp (F := Ideal) FTy.f32 b) = ((b.toInt : ℝ) : EReal) := fun _ => rfl
  rw [e, par_word ⟨r.val / 16, by omega⟩ ⟨k.val % 16, by omega⟩]
  unfold had
  simp only [Int.cast_natCast]
  split_ifs <;> rfl

end Cert.KernelIdeal.Live

end
-- ==== Proof.Math.Pack.lean ====
/- Four bytes to a word: the word operations of the packing act on each byte alone. -/
module

public import proofs.«01_k».proof.Proof.Math.Spec

@[expose] public section

set_option maxRecDepth 16384

noncomputable section

namespace Cert.Quant

/-- Byte `k` of a word. -/
def byte (x : BitVec 32) (k : Nat) : BitVec 8 := x.extractLsb' (8 * k) 8

/-- A bit of a byte of a word. -/
theorem byte_getLsbD (x : BitVec 32) (k q : Nat) : (byte x k).getLsbD q = (decide (q < 8) && x.getLsbD (8 * k + q)) := by
  simp [byte, BitVec.getLsbD_extractLsb']

/-- A conjunction acts on each byte. -/
theorem byte_and (x y : BitVec 32) (k : Nat) : byte (x &&& y) k = byte x k &&& byte y k := by
  ext i hi
  simp [byte]

/-- A disjunction acts on each byte. -/
theorem byte_or (x y : BitVec 32) (k : Nat) : byte (x ||| y) k = byte x k ||| byte y k := by
  ext i hi
  simp [byte]

/-- The value of a byte. -/
theorem byte_toNat (x : BitVec 32) (k : Nat) : (byte x k).toNat = x.toNat / 2 ^ (8 * k) % 256 := by
  simp [byte, Nat.shiftRight_eq_div_pow]

/-- A number below 2^32 as its four digits. -/
theorem digits (n : Nat) (h : n < 4294967296) :
    n = n % 256 + 256 * (n / 256 % 256) + 65536 * (n / 65536 % 256) + 16777216 * (n / 16777216 % 256) := by omega

/-- The difference of two numbers of four digits, digit by digit. -/
theorem digits_sub (a0 a1 a2 a3 b0 b1 b2 b3 : Nat) (h0 : b0 ≤ a0) (h1 : b1 ≤ a1) (h2 : b2 ≤ a2) (h3 : b3 ≤ a3) :
    (a0 + 256 * a1 + 65536 * a2 + 16777216 * a3) - (b0 + 256 * b1 + 65536 * b2 + 16777216 * b3)
      = (a0 - b0) + 256 * (a1 - b1) + 65536 * (a2 - b2) + 16777216 * (a3 - b3) := by
  obtain ⟨c0, rfl⟩ := Nat.exists_eq_add_of_le h0
  obtain ⟨c1, rfl⟩ := Nat.exists_eq_add_of_le h1
  obtain ⟨c2, rfl⟩ := Nat.exists_eq_add_of_le h2
  obtain ⟨c3, rfl⟩ := Nat.exists_eq_add_of_le h3
  simp only [Nat.add_sub_cancel_left]
  omega

/-- A difference without borrows acts on each byte. -/
theorem byte_sub (x y : BitVec 32) (h : ∀ k, k < 4 → (byte y k).toNat ≤ (byte x k).toNat) (k : Nat) (hk : k < 4) :
    byte (x - y) k = byte x k - byte y k := by
  apply BitVec.eq_of_toNat_eq
  rw [BitVec.toNat_sub_of_le (BitVec.le_def.2 (h k hk))]
  have h0 := h 0 (by decide)
  have h1 := h 1 (by decide)
  have h2 := h 2 (by decide)
  have h3 := h 3 (by decide)
  have ex := digits x.toNat x.isLt
  have ey := digits y.toNat y.isLt
  simp only [byte_toNat, Nat.mul_zero, Nat.pow_zero, Nat.div_one, Nat.mul_one, Nat.reduceMul, Nat.reducePow] at h0 h1 h2 h3
  have lx0 := Nat.mod_lt x.toNat (show 256 > 0 by decide)
  have lx1 := Nat.mod_lt (x.toNat / 256) (show 256 > 0 by decide)
  have lx2 := Nat.mod_lt (x.toNat / 65536) (show 256 > 0 by decide)
  have lx3 := Nat.mod_lt (x.toNat / 16777216) (show 256 > 0 by decide)
  have e := digits_sub _ _ _ _ _ _ _ _ h0 h1 h2 h3
  rw [← ex, ← ey] at e
  have hle : y.toNat ≤ x.toNat := by
    rw [ex, ey]
    exact Nat.add_le_add (Nat.add_le_add (Nat.add_le_add h0 (Nat.mul_le_mul_left _ h1)) (Nat.mul_le_mul_left _ h2)) (Nat.mul_le_mul_left _ h3)
  simp only [byte_toNat]
  rw [BitVec.toNat_sub_of_le (BitVec.le_def.2 hle), e]
  clear ex ey e hle h
  interval_cases k <;> simp only [Nat.mul_zero, Nat.pow_zero, Nat.div_one, Nat.mul_one, Nat.reduceMul, Nat.reducePow] <;>
  · generalize x.toNat % 256 = a0 at *
    generalize x.toNat / 256 % 256 = a1 at *
    generalize x.toNat / 65536 % 256 = a2 at *
    generalize x.toNat / 16777216 % 256 = a3 at *
    generalize y.toNat % 256 = b0 at *
    generalize y.toNat / 256 % 256 = b1 at *
    generalize y.toNat / 65536 % 256 = b2 at *
    generalize y.toNat / 16777216 % 256 = b3 at *
    omega

/-- A shift right by two under the mask of the low nibbles acts on each byte. -/
theorem byte_shr2 (x : BitVec 32) (k : Nat) (hk : k < 4) : byte ((x >>> 2) &&& 252645135#32) k = (byte x k >>> 2) &&& 0x0F#8 := by
  apply BitVec.eq_of_getLsbD_eq
  intro i hi
  interval_cases k <;> interval_cases i <;> simp [byte]

/-- A shift left by two under the mask of the high nibbles acts on each byte. -/
theorem byte_shl2 (x : BitVec 32) (k : Nat) (hk : k < 4) : byte ((x <<< 2) &&& 4042322160#32) k = (byte x k <<< 2) &&& 0xF0#8 := by
  apply BitVec.eq_of_getLsbD_eq
  intro i hi
  interval_cases k <;> interval_cases i <;> simp [byte]

/-- A shift right by four under the mask of bits three acts on each byte. -/
theorem byte_shr4 (x : BitVec 32) (k : Nat) (hk : k < 4) : byte ((x >>> 4) &&& 134744072#32) k = (byte x k >>> 4) &&& 0x08#8 := by
  apply BitVec.eq_of_getLsbD_eq
  intro i hi
  interval_cases k <;> interval_cases i <;> simp [byte]

/-- A shift right by three under the mask of bits nought and four acts on each byte. -/
theorem byte_shr3 (x : BitVec 32) (k : Nat) (hk : k < 4) : byte ((x >>> 3) &&& 286331153#32) k = (byte x k >>> 3) &&& 0x11#8 := by
  apply BitVec.eq_of_getLsbD_eq
  intro i hi
  interval_cases k <;> interval_cases i <;> simp [byte]

/-- The mask of bits seven at a byte. -/
theorem byte_top (k : Nat) (hk : k < 4) : byte 2155905152#32 k = 0x80#8 := by
  interval_cases k <;> decide

/-- The bias at a byte. -/
theorem byte_bias (k : Nat) (hk : k < 4) : byte 2004318071#32 k = 0x77#8 := by
  interval_cases k <;> decide

/-- Bits three and seven brought down are at most the byte. -/
theorem shr3_le (x : BitVec 8) : ((x >>> 3) &&& 0x11#8).toNat ≤ x.toNat := by
  rw [BitVec.toNat_and, BitVec.toNat_ushiftRight]
  exact Nat.and_le_left.trans (Nat.shiftRight_le _ _)

/-- The word form of the packing. -/
def codeWord (m0 m1 s0 s1 : BitVec 32) : BitVec 32 :=
  let n := ((m0 >>> 2) &&& 252645135#32) ||| ((m1 <<< 2) &&& 4042322160#32)
  let s := ((s0 >>> 4) &&& 134744072#32) ||| (s1 &&& 2155905152#32)
  ((n - 2004318071#32) - (((n - 2004318071#32) >>> 3) &&& 286331153#32)) ||| (s &&& n)

/-- The packing acts on each byte, where every nibble is at least seven. -/
theorem byte_codeWord (m0 m1 s0 s1 : BitVec 32)
    (h : ∀ k, k < 4 → 0x77 ≤ (((byte m0 k >>> 2) &&& 0x0F#8) ||| ((byte m1 k <<< 2) &&& 0xF0#8)).toNat) (k : Nat) (hk : k < 4) :
    byte (codeWord m0 m1 s0 s1) k = codeByte (byte m0 k) (byte m1 k) (byte s0 k) (byte s1 k) := by
  have hn : ∀ k, k < 4 → byte (((m0 >>> 2) &&& 252645135#32) ||| ((m1 <<< 2) &&& 4042322160#32)) k
      = ((byte m0 k >>> 2) &&& 0x0F#8) ||| ((byte m1 k <<< 2) &&& 0xF0#8) := fun k hk => by
    rw [byte_or, byte_shr2 _ _ hk, byte_shl2 _ _ hk]
  unfold codeWord codeByte
  dsimp only
  have h1 : ∀ k, k < 4 → byte ((((m0 >>> 2) &&& 252645135#32) ||| ((m1 <<< 2) &&& 4042322160#32)) - 2004318071#32) k
      = (((byte m0 k >>> 2) &&& 0x0F#8) ||| ((byte m1 k <<< 2) &&& 0xF0#8)) - 0x77#8 := fun k hk => by
    rw [byte_sub _ _ (fun k hk => by rw [hn k hk, byte_bias k hk]; exact h k hk) k hk, hn k hk, byte_bias k hk]
  have hs : byte (((s0 >>> 4) &&& 134744072#32) ||| (s1 &&& 2155905152#32)) k = ((byte s0 k >>> 4) &&& 0x08#8) ||| (byte s1 k &&& 0x80#8) := by
    rw [byte_or, byte_shr4 _ _ hk, byte_and, byte_top k hk]
  rw [byte_or, byte_and _ _ k, hs, hn k hk, byte_sub _ _ (fun k hk => by rw [byte_shr3 _ _ hk]; exact shr3_le _) k hk, byte_shr3 _ _ hk, h1 k hk]

/-- A code's nibble: its index, with the sign bit where a negative weight's index is not nought. -/
def nibOf (I : Nat) (neg : Prop) [Decidable neg] : BitVec 8 :=
  if neg ∧ 0 < I then BitVec.ofNat 8 (min I 7) ||| 8#8 else BitVec.ofNat 8 (min I 7)

/-- The high nibble of a byte moved up by two is its nibble at two, moved up by four. -/
theorem shl2_nib (m : BitVec 8) : (m <<< 2) &&& 0xF0#8 = ((m >>> 2) &&& 0x0F#8) <<< 4 := by
  apply BitVec.eq_of_getLsbD_eq
  intro i hi
  interval_cases i <;> simp

/-- The packing of two nibbles and two sign bits, all of them tried. -/
theorem codeByte_small : ∀ I0 I1 : Fin 9, ∀ b0 b1 : Bool,
    (let n := BitVec.ofNat 8 (7 + I0.val) ||| (BitVec.ofNat 8 (7 + I1.val) <<< 4)
     let s := (((if b0 then 128#8 else 0#8) >>> 4) &&& 0x08#8) ||| ((if b1 then 128#8 else 0#8) &&& 0x80#8)
     ((n - 0x77#8) - (((n - 0x77#8) >>> 3) &&& 0x11#8)) ||| (s &&& n))
    = nibOf I0.val (b0 = true) ||| (nibOf I1.val (b1 = true) <<< 4) := by
  decide +kernel

/-- The packed byte of two codes. -/
theorem codeByte_eq (m0 m1 : BitVec 8) (w0 w1 : EReal) (I0 I1 : Nat) (h0 : I0 ≤ 8) (h1 : I1 ≤ 8)
    (e0 : (m0 >>> 2) &&& 0x0F#8 = BitVec.ofNat 8 (7 + I0)) (e1 : (m1 >>> 2) &&& 0x0F#8 = BitVec.ofNat 8 (7 + I1)) :
    codeByte m0 m1 (sgnByteOf w0) (sgnByteOf w1) = nibOf I0 (w0 < 0) ||| (nibOf I1 (w1 < 0) <<< 4) := by
  have := codeByte_small ⟨I0, by omega⟩ ⟨I1, by omega⟩ (decide (w0 < 0)) (decide (w1 < 0))
  simp only [decide_eq_true_eq] at this
  unfold codeByte sgnByteOf
  rw [shl2_nib, e0, e1]
  exact this

/-- Nibbles of seven and more keep a byte at 0x77 or more. -/
theorem nib_ge (m0 m1 : BitVec 8) (I0 I1 : Nat) (h0 : I0 ≤ 8) (h1 : I1 ≤ 8)
    (e0 : (m0 >>> 2) &&& 0x0F#8 = BitVec.ofNat 8 (7 + I0)) (e1 : (m1 >>> 2) &&& 0x0F#8 = BitVec.ofNat 8 (7 + I1)) :
    0x77 ≤ (((m0 >>> 2) &&& 0x0F#8) ||| ((m1 <<< 2) &&& 0xF0#8)).toNat := by
  rw [shl2_nib, e0, e1]
  have : ∀ I0 I1 : Fin 9, 0x77 ≤ (BitVec.ofNat 8 (7 + I0.val) ||| (BitVec.ofNat 8 (7 + I1.val) <<< 4)).toNat := by decide +kernel
  exact this ⟨I0, by omega⟩ ⟨I1, by omega⟩

end Cert.Quant

end
-- ==== Proof.Live.TileCodes.lean ====
/- The codes of a tile at an index. -/
module

public import proofs.«01_k».proof.Proof.Live.Pieces
public import proofs.«01_k».proof.Proof.Math.Pack
public import Idealize.ShloMosaic.Lib.BitcastFour

@[expose] public section

set_option maxRecDepth 16384

noncomputable section

namespace Cert.KernelIdeal.Live

open Idealize.ShloMosaic Idealize.ShloMosaic.Tactic Idealize.ShloMosaic.Pointwise
open Cert.KernelIdeal.Gen Cert.Quant
open scoped BigOperators

/-- The lane a lane is filled from. -/
theorem permIdx_apply (a : Fin 32) (l : Fin 128) : permIdx (ix2 a l) = BitVec.ofNat 32 (l.val % 8 * 16 + l.val / 8) := by
  pointwise [permIdx, perm, lane]
  revert l
  decide +kernel

/-- Four rows of bytes as a row of words, at a byte. -/
theorem byte_bitcast {R r n : Nat} (x : (⟨2, ![R, n]⟩ : Shape).Idx → BitVec 8)
    (h : (⟨2, ![R, n]⟩ : Shape).Bitcasts 8 ⟨2, ![r, n]⟩ 32) (a : Fin r) (l : Fin n) (k : Nat) (hk : k < 4) (p : Fin R)
    (hp : p.val = 4 * a.val + k) : byte (bitcast ⟨2, ![r, n]⟩ 32 x h (ix2 a l)) k = x (ix2 p l) := by
  apply BitVec.eq_of_getLsbD_eq
  intro q hq
  rw [byte_getLsbD]
  refine (congrArg (decide (q < 8) && ·) (bitcast_8_32_getLsbD_ix2 x h a l (8 * k + q) (by omega) p (by omega))).trans ?_
  rw [show (8 * k + q) % 8 = q by omega]
  simp only [hq, decide_true, Bool.true_and]
  rfl

/-- A row of words as four rows of bytes. -/
theorem bitcast_byte {R r n : Nat} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = byte (x (ix2 a l)) (p.val % 4) := by
  apply BitVec.eq_of_getLsbD_eq
  intro q hq
  have hrow : (⟨2, ![R, n]⟩ : Shape).row (ix2 p l) = p.val := rfl
  rw [byte_getLsbD, bitcast_getLsbD x h _ q hq (by decide)]
  have e : ((⟨2, ![R, n]⟩ : Shape).row (ix2 p l) * 8 + q) % 32 = 8 * (p.val % 4) + q := by rw [hrow]; omega
  rw [e]
  have e2 : (h.srcIdx (ix2 p l) (((⟨2, ![R, n]⟩ : Shape).row (ix2 p l) * 8 + q) / 32) (fun a ha =>
          (Nat.div_lt_iff_lt_mul (by decide)).2 (h.pos_lt _ q hq a ha))) = ix2 a l := by
    funext c
    match c with
    | ⟨0, _⟩ => exact Fin.ext ((h.srcIdx_row _ _ _ ⟨0, Nat.zero_lt_two⟩ rfl).trans (by rw [hrow]; show _ = a.val; omega))
    | ⟨1, _⟩ => exact Fin.ext (h.srcIdx_other _ _ _ ⟨1, Nat.one_lt_two⟩ (by show ¬ 1 + 2 = 2; omega))
  rw [e2]
  simp [hq]

/-- The stored codes: transposed, the columns permuted. -/
theorem storeCodes_apply (c : IVec S128x128 8) (l q : Fin 128) :
    storeCodes c (ix3 0 l q) = c (ix2 ⟨q.val % 8 * 16 + q.val / 8, by omega⟩ l) := by
  pointwise [storeCodes]
  rw [bitcast_byte _ _ l q ⟨l.val / 4, by omega⟩ rfl]
  have e : (dynamicGather 1 (bitcast S32x128 32 (transpose S128x128 [1, 0] c transposes_S128x128_p1_0_S128x128)
    bitcasts_S128x128_w8_S32x128_w32) permIdx) (ix2 ⟨l.val / 4, by omega⟩ q)
     = (bitcast S32x128 32 (transpose S128x128 [1, 0] c transposes_S128x128_p1_0_S128x128)
    bitcasts_S128x128_w8_S32x128_w32) (ix2 ⟨l.val / 4, by omega⟩ ⟨q.val % 8 * 16 + q.val / 8, by omega⟩) := by
    unfold dynamicGather
    congr 1
    funext b
    match b with
    | ⟨0, _⟩ => rfl
    | ⟨1, _⟩ =>
      apply Fin.ext
      show (permIdx (ix2 _ q)).toNat % 128 = _
      rw [permIdx_apply, BitVec.toNat_ofNat]
      show _ = q.val % 8 * 16 + q.val / 8
      omega
  rw [e, byte_bitcast _ _ _ _ _ (by omega) l (by show l.val = 4 * (l.val / 4) + l.val % 4; omega)]
  pointwise

/-- The byte of a magnitude at an index. -/
theorem magByte_apply (w r d2 i2 : FVec Ideal S32x128 .f32) (n : Fin 32) (l : Fin 128) :
    magByte w r d2 i2 (ix2 n l) = magByteOf (w (ix2 n l)) (r (ix2 n l)) (d2 (ix2 n l)) (i2 (ix2 n l)) := by
  pointwise [magByte, magWord, line, rndWord, roundByte]
  rfl

/-- The byte of a sign at an index. -/
theorem sgnByte_apply (w : FVec Ideal S32x128 .f32) (n : Fin 32) (l : Fin 128) :
    sgnByte w (ix2 n l) = sgnByteOf (w (ix2 n l)) := by
  pointwise [sgnByte, sgnByteOf]
  split_ifs <;> rfl

/-- One position of every block, at an index. -/
theorem plane_apply (w : FVec Ideal S16x16x128 .f32) (i : Nat) (h : i < 16) (hi : S16x16x128.Slices ![i, 0, 0] S1x16x128)  (n : Fin 16) (l : Fin 128) :
    plane w i hi (ix2 n l) = w (ix3 ⟨i, h⟩ n l) := by
  pointwise [plane]

/-- One array of blocks over another, at an index. -/
theorem twice_apply (a b : FVec Ideal S16x128 .f32) (R : Fin 32) (l : Fin 128) :
    twice a b (ix2 R l) = if R.val < 16 then a (ix2 ⟨R.val % 16, by omega⟩ l) else b (ix2 ⟨R.val % 16, by omega⟩ l) := by
  pointwise [twice]
  split_ifs <;> first | omega | (congr 2; apply Fin.ext; simp only; omega)

/-- Two positions of every block, at an index. -/
theorem planes_apply (w : FVec Ideal S16x16x128 .f32) (a b : Nat) (ha : a < 16) (hb : b < 16) (ia : S16x16x128.Slices ![a, 0, 0] S1x16x128)
    (ib : S16x16x128.Slices ![b, 0, 0] S1x16x128) (R : Fin 32) (l : Fin 128) :
    twice (plane w a ia) (plane w b ib) (ix2 R l) = w (ix3 ⟨if R.val < 16 then a else b, by split_ifs <;> assumption⟩ ⟨R.val % 16, by omega⟩ l) := by
  rw [twice_apply, plane_apply w a ha, plane_apply w b hb]
  split_ifs <;> rfl

/-- One array of blocks twice, at an index. -/
theorem both_apply (d : FVec Ideal S16x128 .f32) (R : Fin 32) (l : Fin 128) :
    twice d d (ix2 R l) = d (ix2 ⟨R.val % 16, by omega⟩ l) := by
  rw [twice_apply]
  split_ifs <;> rfl

/-- Every weight of a lane has the index `I`: its magnitude byte holds seven more, at most fifteen. -/
def HasIdx (w r : FVec Ideal S16x16x128 .f32) (d i : FVec Ideal S16x128 .f32) (l : Fin 128) (I : Fin 16 → Fin 16 → Nat) : Prop :=
  ∀ p n : Fin 16, I p n ≤ 8 ∧
    (magByteOf (w (ix3 p n l)) (r (ix3 p n l)) (d (ix2 n l)) (i (ix2 n l)) >>> 2) &&& 0x0F#8 = BitVec.ofNat 8 (7 + I p n)

/-- Two codes of a block as one byte. -/
def pairOf (w : FVec Ideal S16x16x128 .f32) (l : Fin 128) (I : Fin 16 → Fin 16 → Nat) (lo hi n : Fin 16) : BitVec 8 :=
  nibOf (I lo n) (w (ix3 lo n l) < 0) ||| (nibOf (I hi n) (w (ix3 hi n l) < 0) <<< 4)

/-- The packed codes at an index. -/
theorem packed_apply (w r : FVec Ideal S16x16x128 .f32) (d i : FVec Ideal S16x128 .f32) (l : Fin 128) (I : Fin 16 → Fin 16 → Nat)
    (H : HasIdx w r d i l I) (a b a' b' : Nat) (ha : a < 16) (hb : b < 16) (ha' : a' < 16) (hb' : b' < 16)
    (ia : S16x16x128.Slices ![a, 0, 0] S1x16x128) (ib : S16x16x128.Slices ![b, 0, 0] S1x16x128)
    (ia' : S16x16x128.Slices ![a', 0, 0] S1x16x128) (ib' : S16x16x128.Slices ![b', 0, 0] S1x16x128) (R : Fin 32) :
    packed w r (twice d d) (twice i i) a b a' b' ia ib ia' ib' (ix2 R l)
      = pairOf w l I ⟨if R.val < 16 then a else b, by split_ifs <;> assumption⟩ ⟨if R.val < 16 then a' else b', by split_ifs <;> assumption⟩
        ⟨R.val % 16, by omega⟩ := by
  unfold packed
  rw [bitcast_byte _ _ R l ⟨R.val / 4, by omega⟩ rfl]
  have mb : ∀ (x : Nat) (hx : x < 16) (y : Nat) (hy : y < 16) (ix : S16x16x128.Slices ![x, 0, 0] S1x16x128) (iy : S16x16x128.Slices ![y, 0, 0] S1x16x128)
      (k : Nat) (hk : k < 4),
      byte (toWord (magByte (twice (plane w x ix) (plane w y iy)) (twice (plane r x ix) (plane r y iy)) (twice d d) (twice i i)) (ix2 ⟨R.val / 4, by omega⟩ l)) k
        = (fun (p n : Fin 16) => magByteOf (w (ix3 p n l)) (r (ix3 p n l)) (d (ix2 n l)) (i (ix2 n l)))
          ⟨if R.val / 4 * 4 + k < 16 then x else y, by split_ifs <;> assumption⟩ ⟨(R.val / 4 * 4 + k) % 16, by omega⟩ := by
    intro x hx y hy ix iy k hk
    unfold toWord
    rw [byte_bitcast _ _ _ _ k hk ⟨R.val / 4 * 4 + k, by omega⟩ (by show R.val / 4 * 4 + k = 4 * (R.val / 4) + k; omega), magByte_apply,
      planes_apply w x y hx hy, planes_apply r x y hx hy, both_apply, both_apply]
  have sb : ∀ (x : Nat) (hx : x < 16) (y : Nat) (hy : y < 16) (ix : S16x16x128.Slices ![x, 0, 0] S1x16x128) (iy : S16x16x128.Slices ![y, 0, 0] S1x16x128),
      byte (toWord (sgnByte (twice (plane w x ix) (plane w y iy))) (ix2 ⟨R.val / 4, by omega⟩ l)) (R.val % 4)
        = sgnByteOf (w (ix3 ⟨if R.val < 16 then x else y, by split_ifs <;> assumption⟩ ⟨R.val % 16, by omega⟩ l)) := by
    intro x hx y hy ix iy
    unfold toWord
    rw [byte_bitcast _ _ _ _ _ (by omega) R (by show R.val = 4 * (R.val / 4) + R.val % 4; omega), sgnByte_apply, planes_apply w x y hx hy]
  show byte (Quant.codeWord (toWord _ (ix2 ⟨R.val / 4, _⟩ l)) (toWord _ (ix2 ⟨R.val / 4, _⟩ l)) (toWord _ (ix2 ⟨R.val / 4, _⟩ l)) (toWord _ (ix2 ⟨R.val / 4, _⟩ l))) (R.val % 4) = _
  rw [byte_codeWord _ _ _ _ (fun k hk => ?_) _ (by omega)]
  · have e : R.val / 4 * 4 + R.val % 4 = R.val := by omega
    rw [mb a ha b hb, mb a' ha' b' hb', sb a ha b hb, sb a' ha' b' hb']
    · simp only [e]
      exact codeByte_eq _ _ _ _ _ _ (H _ _).1 (H _ _).1 (H _ _).2 (H _ _).2
    · omega
    · omega
  · rw [mb a ha b hb _ _ k hk, mb a' ha' b' hb' _ _ k hk]
    exact nib_ge _ _ _ _ (H _ _).1 (H _ _).1 (H _ _).2 (H _ _).2

/-- The codes of a half at an index: a row holds two neighbouring positions of a block. -/
theorem chunkCodes_apply (w r : FVec Ideal S16x16x128 .f32) (ts rk : FVec Ideal S1x1 .f32) (l : Fin 128) (I : Fin 16 → Fin 16 → Nat)
    (H : HasIdx w r (chunkDec w ts rk) (chunkInv (chunkDec w ts rk)) l I) (row : Fin 128) :
    chunkCodes w r ts rk (ix2 row l) = pairOf w l I ⟨2 * (row.val / 16), by omega⟩ ⟨2 * (row.val / 16) + 1, by omega⟩ ⟨row.val % 16, by omega⟩ := by
  have key : ∀ (u : Nat) (hu : u < 4) (a b a' b' : Nat) (ha : a < 16) (hb : b < 16) (ha' : a' < 16) (hb' : b' < 16),
      a = 4 * u → b = 4 * u + 2 → a' = 4 * u + 1 → b' = 4 * u + 3 → ∀ (R : Fin 32), row.val = 32 * u + R.val →
      ∀ (ia : S16x16x128.Slices ![a, 0, 0] S1x16x128) (ib : S16x16x128.Slices ![b, 0, 0] S1x16x128)
        (ia' : S16x16x128.Slices ![a', 0, 0] S1x16x128) (ib' : S16x16x128.Slices ![b', 0, 0] S1x16x128),
      packed w r (twice (chunkDec w ts rk) (chunkDec w ts rk)) (twice (chunkInv (chunkDec w ts rk)) (chunkInv (chunkDec w ts rk))) a b a' b' ia ib ia' ib' (ix2 R l)
        = pairOf w l I ⟨2 * (row.val / 16), by omega⟩ ⟨2 * (row.val / 16) + 1, by omega⟩ ⟨row.val % 16, by omega⟩ := by
    intro u hu a b a' b' ha hb ha' hb' ea eb ea' eb' R e ia ib ia' ib'
    rw [packed_apply w r _ _ l I H _ _ _ _ ha hb ha' hb']
    congr 1 <;> apply Fin.ext <;> simp only <;> (try split_ifs) <;> omega
  unfold chunkCodes
  have k0 := key 0 (by decide) 0 2 1 3 (by decide) (by decide) (by decide) (by decide) rfl rfl rfl rfl
  have k1 := key 1 (by decide) 4 6 5 7 (by decide) (by decide) (by decide) (by decide) rfl rfl rfl rfl
  have k2 := key 2 (by decide) 8 10 9 11 (by decide) (by decide) (by decide) (by decide) rfl rfl rfl rfl
  have k3 := key 3 (by decide) 12 14 13 15 (by decide) (by decide) (by decide) (by decide) rfl rfl rfl rfl
  replace k0 := fun R e => k0 R e slices_S16x16x128_o0_0_0_S1x16x128 slices_S16x16x128_o2_0_0_S1x16x128 slices_S16x16x128_o1_0_0_S1x16x128 slices_S16x16x128_o3_0_0_S1x16x128
  replace k1 := fun R e => k1 R e slices_S16x16x128_o4_0_0_S1x16x128 slices_S16x16x128_o6_0_0_S1x16x128 slices_S16x16x128_o5_0_0_S1x16x128 slices_S16x16x128_o7_0_0_S1x16x128
  replace k2 := fun R e => k2 R e slices_S16x16x128_o8_0_0_S1x16x128 slices_S16x16x128_o10_0_0_S1x16x128 slices_S16x16x128_o9_0_0_S1x16x128 slices_S16x16x128_o11_0_0_S1x16x128
  replace k3 := fun R e => k3 R e slices_S16x16x128_o12_0_0_S1x16x128 slices_S16x16x128_o14_0_0_S1x16x128 slices_S16x16x128_o13_0_0_S1x16x128 slices_S16x16x128_o15_0_0_S1x16x128
  clear key
  generalize packed w r _ _ 0 2 1 3 _ _ _ _ = P0 at *
  generalize packed w r _ _ 4 6 5 7 _ _ _ _ = P1 at *
  generalize packed w r _ _ 8 10 9 11 _ _ _ _ = P2 at *
  generalize packed w r _ _ 12 14 13 15 _ _ _ _ = P3 at *
  generalize pairOf w l I _ _ _ = V at *
  pointwise
  split_ifs <;> first
    | exact k0 _ (by simp only; omega)
    | exact k1 _ (by simp only; omega)
    | exact k2 _ (by simp only; omega)
    | exact k3 _ (by simp only; omega)

/-- The stored codes of a half at an index. -/
theorem storedCodes_apply (w r : FVec Ideal S16x16x128 .f32) (ts rk : FVec Ideal S1x1 .f32) (l : Fin 128) (I : Fin 16 → Fin 16 → Nat)
    (H : HasIdx w r (chunkDec w ts rk) (chunkInv (chunkDec w ts rk)) l I) (q : Fin 128) :
    storeCodes (chunkCodes w r ts rk) (ix3 0 l q)
      = pairOf w l I ⟨2 * (q.val % 8), by omega⟩ ⟨2 * (q.val % 8) + 1, by omega⟩ ⟨q.val / 8, by omega⟩ := by
  rw [storeCodes_apply, chunkCodes_apply w r ts rk l I H]
  congr 1 <;> apply Fin.ext <;> simp only <;> omega

end Cert.KernelIdeal.Live

end
-- ==== Proof.Live.TileFloat.lean ====
/- The float computations of a tile at an index, over the extended reals. -/
module

public import proofs.«01_k».proof.Proof.Live.Pieces
public import proofs.«01_k».proof.Proof.Math.Spec

@[expose] public section

set_option maxRecDepth 16384

noncomputable section

namespace Cert.KernelIdeal.Live

open Idealize.ShloMosaic Idealize.ShloMosaic.Tactic Idealize.ShloMosaic.Pointwise
open Cert.KernelIdeal.Gen Cert.Quant
open scoped BigOperators

/-- The transformed weights at an index: a sum over the tile's tokens. -/
theorem tileW_apply (h : Vec Ideal S256x256 .bf16) (x : Vec Ideal S1x256x256 .bf16) (i n : Fin 16) (c : Fin 256) :
    tileW h x (ix3 i n c) = ∑ k : Fin 256, h (ix2 ⟨i.val * 16 + n.val, by omega⟩ k) * x (ix3 0 k c) := by
  pointwise [tileW]

/-- The permuted random values at an index: a sum over the tile's tokens. -/
theorem tileR_apply (p : Vec Ideal S256x256 .bf16) (r : Vec Ideal S1x256x256 .i8) (i n : Fin 16) (c : Fin 256) :
    tileR p r (ix3 i n c) = ∑ k : Fin 256, p (ix2 ⟨i.val * 16 + n.val, by omega⟩ k) * (((r (ix3 0 c k) : BitVec 8).toNat : ℝ) : EReal) := by
  pointwise [tileR]
  rfl

/-- A half of the channels at an index. -/
theorem half_apply (c : Nat) (hc : c < 2) (w : FVec Ideal S16x16x256 .f32) (i n : Fin 16) (l : Fin 128) :
    half c hc w (ix3 i n l) = w (ix3 i n ⟨128 * c + l.val, by omega⟩) := by
  pointwise [half]

/-- A block's greatest magnitude. -/
theorem chunkAmax_apply (w : FVec Ideal S16x16x128 .f32) (n : Fin 16) (l : Fin 128) :
    chunkAmax w (ix2 n l) = amaxOf fun i => w (ix3 i n l) := by
  pointwise [chunkAmax, amaxOf]
  rw [negInf]
  rfl

/-- The decode scale of a block. -/
theorem chunkDec_apply (w : FVec Ideal S16x16x128 .f32) (ts rk : FVec Ideal S1x1 .f32) (n : Fin 16) (l : Fin 128) :
    chunkDec w ts rk (ix2 n l) = decOf (amaxOf fun i => w (ix3 i n l)) (ts (ix2 0 0)) (rk (ix2 0 0)) := by
  rw [← chunkAmax_apply]
  pointwise [chunkDec, decOf, sbOf]

/-- Its reciprocal. -/
theorem chunkInv_apply (w : FVec Ideal S16x128 .f32)(n : Fin 16) (l : Fin 128) :
    chunkInv w  (ix2 n l) = invOf (w (ix2 n l)) := by
  pointwise [chunkInv, invOf]

/-- The stored block scale. -/
theorem storeSb_apply (a : FVec Ideal S128x128 .f32) (rk : FVec Ideal S1x1 .f32) (n : Fin 128) (l : Fin 128) :
    storeSb a rk (ix3 0 n l) = sbOf (a (ix2 n l)) (rk (ix2 0 0)) := by
  pointwise [storeSb, sbOf]

/-- The stored block maximum. -/
theorem storeAmax_apply (a : FVec Ideal S128x128 .f32) (n : Fin 128) (l : Fin 128) :
    storeAmax a (ix3 0 n l) = a (ix2 n l) := by
  pointwise [storeAmax]

/-- The first entry of a row of the constants. -/
theorem entry_apply (a : Vec Ideal S1x8x128 .f32) :
    entry a (ix2 0 0) = a (ix3 0 0 0) := by
  pointwise [entry]

/-- The tensor scale as the first point stores it. -/
theorem tsRow_apply (a : Elt Ideal .f32) :
    tsRow a (ix3 0 0 0) = tsOf a := by
  pointwise [tsRow, tsOf, k0_pay14, k0_pay13, k0_pay12, k0_pay11, k0_pay10, k0_pay9]

/-- The reciprocal as the first point stores it. -/
theorem rkRow_apply (a : Elt Ideal .f32) :
    rkRow a (ix3 0 0 0) = rkOf a := by
  pointwise [rkRow, rkOf, tsOf, k0_pay15, k0_pay13, k0_pay12, k0_pay11, k0_pay10, k0_pay9]

/-- The tensor scale as the first point writes it out. -/
theorem tsOne_apply (a : Elt Ideal .f32) : tsOne a (ix2 0 0) = tsOf a := by
  pointwise [tsOne, tsOf, k0_pay16, k0_pay13, k0_pay12, k0_pay11, k0_pay10, k0_pay9]

/-- The block maxima of the eight tiles at an index. -/
theorem amaxAll_apply (a0 a1 a2 a3 a4 a5 a6 a7 : FVec Ideal S16x128 .f32) (l q : Fin 128) (n : Fin 16) (t : Fin 8) (hq : q.val = 16 * t.val + n.val) :
    amaxAll a0 a1 a2 a3 a4 a5 a6 a7 (ix2 l q) = (![a0, a1, a2, a3, a4, a5, a6, a7] t) (ix2 n l) := by
  pointwise [amaxAll]
  have hn := n.isLt
  rcases t with ⟨t, ht⟩
  have hq' : q.val = 16 * t + n.val := hq
  clear hq
  interval_cases t
  all_goals
    simp only [show ∀ x : Nat, (16 * x + n.val) = n.val + 16 * x from fun _ => Nat.add_comm _ _, Nat.reduceMul] at hq'
  all_goals
    rw [← Fin.eta n n.isLt]
  · rw [dif_pos (by omega)]; simp only [hq', Nat.zero_add]; rfl
  · rw [dif_neg (by omega), dif_pos (by omega)]; simp only [hq', Nat.add_sub_cancel_left]; rfl
  · rw [dif_neg (by omega), dif_neg (by omega), dif_pos (by omega)]
    simp only [hq', Nat.sub_sub, Nat.reduceAdd, Nat.add_sub_cancel_left]; rfl
  · rw [dif_neg (by omega), dif_neg (by omega), dif_neg (by omega), dif_pos (by omega)]
    simp only [hq', Nat.sub_sub, Nat.reduceAdd, Nat.add_sub_cancel_left]; rfl
  · rw [dif_neg (by omega), dif_neg (by omega), dif_neg (by omega), dif_neg (by omega), dif_pos (by omega)]
    simp only [hq', Nat.sub_sub, Nat.reduceAdd, Nat.add_sub_cancel_left]; rfl
  · rw [dif_neg (by omega), dif_neg (by omega), dif_neg (by omega), dif_neg (by omega), dif_neg (by omega), dif_pos (by omega)]
    simp only [hq', Nat.sub_sub, Nat.reduceAdd, Nat.add_sub_cancel_left]; rfl
  · rw [dif_neg (by omega), dif_neg (by omega), dif_neg (by omega), dif_neg (by omega), dif_neg (by omega), dif_neg (by omega), dif_pos (by omega)]
    simp only [hq', Nat.sub_sub, Nat.reduceAdd, Nat.add_sub_cancel_left]; rfl
  · rw [dif_neg (by omega), dif_neg (by omega), dif_neg (by omega), dif_neg (by omega), dif_neg (by omega), dif_neg (by omega), dif_neg (by omega)]
    simp only [hq', Nat.sub_sub, Nat.reduceAdd, Nat.add_sub_cancel_left]; rfl

end Cert.KernelIdeal.Live

end
-- ==== Proof.Math.Words.lean ====
/- The word arithmetic of a magnitude: the constants as reals, the four lines as one ceiling, the rounding to a byte. -/
module

public import proofs.«01_k».proof.Proof.Math.Spec

@[expose] public section

noncomputable section

namespace Cert.Quant

open Idealize.ShloMosaic

/-- The float32 pattern of 2688. -/
theorem c2688 : cst 1160249344#32 = ((2688 : ℝ) : EReal) := by
  simp [Ideal.ofBits, Ideal.ieee, -EReal.coe_mul]; norm_num
/-- The float32 pattern of 6. -/
theorem c6 : cst 1086324736#32 = ((6 : ℝ) : EReal) := by
  simp [Ideal.ofBits, Ideal.ieee, -EReal.coe_mul]; norm_num
/-- The float32 pattern of -6. -/
theorem cm6 : cst 3233808384#32 = ((-6 : ℝ) : EReal) := by
  simp [Ideal.ofBits, Ideal.ieee, -EReal.coe_mul, -EReal.coe_neg]; norm_num
/-- The float32 pattern of 448. -/
theorem c448 : cst 1138753536#32 = ((448 : ℝ) : EReal) := by
  simp [Ideal.ofBits, Ideal.ieee, -EReal.coe_mul]; norm_num
/-- The float32 pattern of 2^116. -/
theorem cDead : cst 2038431744#32 = ((2 ^ 116 : ℝ) : EReal) := by
  simp [Ideal.ofBits, Ideal.ieee, -EReal.coe_mul, -EReal.coe_pow]; norm_num
/-- The float32 pattern of 256. -/
theorem c256 : cst 1132462080#32 = ((256 : ℝ) : EReal) := by
  simp [Ideal.ofBits, Ideal.ieee, -EReal.coe_mul]; norm_num
/-- The float32 pattern of 1/16. -/
theorem cTop : cst 1031798784#32 = ((1 / 16 : ℝ) : EReal) := by
  simp [Ideal.ofBits, Ideal.ieee, -EReal.coe_mul]; norm_num
/-- The float32 pattern of 2. -/
theorem c2 : cst 1073741824#32 = ((2 : ℝ) : EReal) := by
  simp [Ideal.ofBits, Ideal.ieee, -EReal.coe_mul]; norm_num
/-- The float32 pattern of 4. -/
theorem c4 : cst 1082130432#32 = ((4 : ℝ) : EReal) := by
  simp [Ideal.ofBits, Ideal.ieee, -EReal.coe_mul]; norm_num
/-- The float32 pattern of 1/2. -/
theorem cHalf : cst 1056964608#32 = ((1 / 2 : ℝ) : EReal) := by
  simp [Ideal.ofBits, Ideal.ieee, -EReal.coe_mul]; norm_num
/-- The float32 pattern of 2^31. -/
theorem cL0 : cst 1325400064#32 = ((2147483648 : ℝ) : EReal) := by
  simp [Ideal.ofBits, Ideal.ieee, -EReal.coe_mul]; norm_num
/-- The float32 pattern of 2^30. -/
theorem cL1 : cst 1317011456#32 = ((1073741824 : ℝ) : EReal) := by
  simp [Ideal.ofBits, Ideal.ieee, -EReal.coe_mul]; norm_num
/-- The float32 pattern of 2^29. -/
theorem cL2 : cst 1308622848#32 = ((536870912 : ℝ) : EReal) := by
  simp [Ideal.ofBits, Ideal.ieee, -EReal.coe_mul]; norm_num
/-- The float32 pattern of 2^28. -/
theorem cL3 : cst 1300234240#32 = ((268435456 : ℝ) : EReal) := by
  simp [Ideal.ofBits, Ideal.ieee, -EReal.coe_mul]; norm_num
/-- The float32 pattern of the bias added to the random bytes. -/
theorem cBias : cst 108519423#32 = ((16244735 * (2 : ℝ) ^ (-138 : ℤ) : ℝ) : EReal) := by
  simp [Ideal.ofBits, Ideal.ieee, -EReal.coe_mul, -EReal.coe_pow]
/-- The float32 pattern of 2^115. -/
theorem cUp : cst 2030043136#32 = (((2 : ℝ) ^ (115 : ℤ) : ℝ) : EReal) := by
  simp [Ideal.ofBits, Ideal.ieee, -EReal.coe_mul, -EReal.coe_pow]; norm_num
/-- The float32 pattern of 2^23. -/
theorem cUp2 : cst 1258291200#32 = ((8388608 : ℝ) : EReal) := by
  simp [Ideal.ofBits, Ideal.ieee, -EReal.coe_mul]
/-- The float32 pattern of the step of a random byte. -/
theorem cStep : rStep = ((-(2 : ℝ) ^ (-124 : ℤ) : ℝ) : EReal) := by
  unfold rStep
  simp [Ideal.ofBits, Ideal.ieee, -EReal.coe_mul, -EReal.coe_neg, -EReal.coe_pow]; norm_num

/-- A natural number below 2^31 shifted right by twenty. -/
theorem shr_twenty (n : Nat) (h : n < 2147483648) : IntOp.shrsi .vector (BitVec.ofNat 32 n) 20#32 = BitVec.ofNat 32 (n / 1048576) := by
  have e : IntOp.shrsi .vector (BitVec.ofNat 32 n) 20#32 = (BitVec.ofNat 32 n).sshiftRight 20 := rfl
  rw [e, BitVec.sshiftRight_eq_of_msb_false]
  · apply BitVec.eq_of_toNat_eq
    simp only [BitVec.toNat_ushiftRight, BitVec.toNat_ofNat, Nat.shiftRight_eq_div_pow]
    omega
  · rw [BitVec.msb_eq_false_iff_two_mul_lt, BitVec.toNat_ofNat]
    omega

/-- The last bit of a natural number. -/
theorem and_one (n : Nat) : IntOp.andi (BitVec.ofNat 32 n) 1#32 = BitVec.ofNat 32 (n % 2) := by
  apply BitVec.eq_of_toNat_eq
  show (BitVec.ofNat 32 n &&& 1#32).toNat = _
  simp only [BitVec.toNat_and, BitVec.toNat_ofNat]
  rw [show 1 % 2 ^ 32 = 1 from rfl, Nat.and_one_is_mod]
  omega

/-- A sum of two natural numbers. -/
theorem add_nat (a b : Nat) : IntOp.addi (BitVec.ofNat 32 a) (BitVec.ofNat 32 b) = BitVec.ofNat 32 (a + b) :=
  (BitVec.ofNat_add a b).symm

/-- A difference of two natural numbers. -/
theorem sub_nat (a b : Nat) (h : b ≤ a) : IntOp.subi (BitVec.ofNat 32 a) (BitVec.ofNat 32 b) = BitVec.ofNat 32 (a - b) := by
  obtain ⟨c, rfl⟩ := Nat.exists_eq_add_of_le h
  show BitVec.ofNat 32 (b + c) - BitVec.ofNat 32 b = _
  rw [BitVec.ofNat_add, Nat.add_sub_cancel_left, BitVec.add_comm, BitVec.add_sub_cancel]

/-- The least of two natural numbers below 2^31. -/
theorem min_nat (a b : Nat) (ha : a < 2147483648) (hb : b < 2147483648) :
    IntOp.minsi (BitVec.ofNat 32 a) (BitVec.ofNat 32 b) = BitVec.ofNat 32 (min a b) := by
  have t : ∀ n : Nat, n < 2147483648 → (BitVec.ofNat 32 n).toInt = n := fun n hn => by
    rw [BitVec.toInt_eq_toNat_of_lt] <;> rw [BitVec.toNat_ofNat] <;> omega
  unfold IntOp.minsi BitVec.slt
  rw [t a ha, t b hb]
  by_cases h : a < b
  · rw [if_pos (by simpa using h), min_eq_left h.le]
  · rw [if_neg (by simpa using h), min_eq_right (not_lt.1 h)]

/-- The byte a word rounds to, on natural numbers. -/
theorem roundOf_nat (v : Nat) (h1 : 1006632960 ≤ v) (h2 : v < 2146435072) :
    roundOf (BitVec.ofNat 32 v) = BitVec.ofNat 8 (min ((v + 524287 + v / 1048576 % 2) / 1048576 - 960) 127) := by
  unfold roundOf
  rw [shr_twenty v (by omega), and_one, add_nat, add_nat, shr_twenty _ (by omega), sub_nat _ _ (by omega), min_nat _ _ (by omega) (by omega)]
  apply BitVec.eq_of_toNat_eq
  simp only [BitVec.toNat_setWidth, BitVec.toNat_ofNat]
  omega

/-- The nibble at bit two of a byte. -/
theorem nib_nat (m : Nat) (h : m < 256) : (BitVec.ofNat 8 m >>> 2) &&& 0x0F#8 = BitVec.ofNat 8 (m / 4 % 16) := by
  apply BitVec.eq_of_toNat_eq
  simp only [BitVec.toNat_and, BitVec.toNat_ushiftRight, BitVec.toNat_ofNat, Nat.shiftRight_eq_div_pow]
  rw [show 15 % 2 ^ 8 = 2 ^ 4 - 1 from rfl, Nat.and_two_pow_sub_one_eq_mod]
  omega

/-- The nibble of a magnitude that exceeds the grid point `I - 1` by more than the random threshold, and `I` by no more. -/
theorem nib_word (F I r : Nat) (hI : I ≤ 8) (hr : r < 256) (lo : I * 4194304 + r * 16384 + 8192 < F + 4194304)
    (hi : F ≤ I * 4194304 + r * 16384 + 8192) :
    (roundOf (BitVec.ofNat 32 (998244352 + F + (108519423 - r * 16384))) >>> 2) &&& 0x0F#8 = BitVec.ofNat 8 (7 + I) := by
  obtain ⟨v, hv⟩ : ∃ v, v = 998244352 + F + (108519423 - r * 16384) := ⟨_, rfl⟩
  have v0 : 1051 * 1048576 + 524288 + 4 * I * 1048576 ≤ v := by omega
  have v1 : v ≤ 1055 * 1048576 + 524287 + 4 * I * 1048576 := by omega
  rw [← hv, roundOf_nat _ (by omega) (by omega), nib_nat _ (by omega)]
  have hb : v / 1048576 % 2 ≤ 1 := by omega
  have hq : 1052 + 4 * I ≤ (v + 524287 + v / 1048576 % 2) / 1048576 := by
    rcases Nat.eq_or_lt_of_le v0 with h | h <;> omega
  have hq' : (v + 524287 + v / 1048576 % 2) / 1048576 ≤ 1055 + 4 * I := by omega
  generalize (v + 524287 + v / 1048576 % 2) / 1048576 = q at *
  congr 1
  omega

/-- An integral value's word. -/
theorem fptosi_nat (n : Nat) (h : n < 2147483648) :
    FloatOps.fptosi (F := Ideal) (φ := .f32) 32 (((n : ℝ)) : EReal) = BitVec.ofNat 32 n := by
  show Ideal.fptosi 32 _ = _
  unfold Ideal.fptosi
  rw [Ideal.toIntClamped_coe, if_pos (Nat.cast_nonneg n), Int.floor_natCast, ← BitVec.ofInt_natCast]
  congr 1
  have : (n : Int) < 2147483648 := by exact_mod_cast h
  norm_num
  omega

/-- One line on a real. -/
theorem lineOf_real (x s : ℝ) (o : Nat) (h0 : 0 ≤ x * s) (h1 : x * s ≤ 134217728) :
    lineOf (x : EReal) (s : EReal) (BitVec.ofNat 32 o) = BitVec.ofNat 32 (⌈x * s⌉.toNat + o) := by
  unfold lineOf
  have hc : 0 ≤ ⌈x * s⌉ := Int.ceil_nonneg h0
  have hle : ⌈x * s⌉ ≤ 134217728 := Int.ceil_le.2 (by exact_mod_cast h1)
  have e : ((⌈x * s⌉ : ℤ) : ℝ) = ((⌈x * s⌉.toNat : ℕ) : ℝ) := by
    have := Int.toNat_of_nonneg hc
    exact_mod_cast this.symm
  rw [← EReal.coe_mul, Ideal.liftRound_coe, e, fptosi_nat _ (by omega), add_nat]

/-- The least of the four lines through 256 times a scaled magnitude. -/
def least (B : ℝ) : ℝ := min (min (min (2 * B - 2) B) (B / 2 + 2)) (B / 4 + 4)

/-- The word of a scaled magnitude between 2^-8 and 2^-4. -/
theorem magOf_real (B : ℝ) (h1 : 1 ≤ B) (h2 : B ≤ 16) :
    magOf ((B / 256 : ℝ) : EReal) = BitVec.ofNat 32 (998244352 + ⌈4194304 * least B⌉.toNat) := by
  unfold magOf
  rw [cL0, cL1, cL2, cL3, lineOf_real _ _ _ (by linarith) (by linarith), lineOf_real _ _ _ (by linarith) (by linarith),
    lineOf_real _ _ _ (by linarith) (by linarith), lineOf_real _ _ _ (by linarith) (by linarith)]
  have hmono : Monotone (Int.ceil : ℝ → ℤ) := Int.ceil_mono
  have eF : ⌈4194304 * least B⌉ = min (min (min ⌈4194304 * (2 * B - 2)⌉ ⌈4194304 * B⌉) ⌈4194304 * (B / 2 + 2)⌉) ⌈4194304 * (B / 4 + 4)⌉ := by
    unfold least
    rw [mul_min_of_nonneg _ _ (by norm_num), mul_min_of_nonneg _ _ (by norm_num), mul_min_of_nonneg _ _ (by norm_num), hmono.map_min,
      hmono.map_min, hmono.map_min]
  have e0 : ⌈B / 256 * 2147483648⌉ = ⌈4194304 * (2 * B - 2)⌉ + 8388608 := by
    rw [show B / 256 * 2147483648 = 4194304 * (2 * B - 2) + ((8388608 : ℤ) : ℝ) by push_cast; ring, Int.ceil_add_intCast]
  have e1 : ⌈B / 256 * 1073741824⌉ = ⌈4194304 * B⌉ := by
    rw [show B / 256 * 1073741824 = 4194304 * B by ring]
  have e2 : ⌈B / 256 * 536870912⌉ = ⌈4194304 * (B / 2 + 2)⌉ - 8388608 := by
    rw [show B / 256 * 536870912 = 4194304 * (B / 2 + 2) - ((8388608 : ℤ) : ℝ) by push_cast; ring, Int.ceil_sub_intCast]
  have e3 : ⌈B / 256 * 268435456⌉ = ⌈4194304 * (B / 4 + 4)⌉ - 16777216 := by
    rw [show B / 256 * 268435456 = 4194304 * (B / 4 + 4) - ((16777216 : ℤ) : ℝ) by push_cast; ring, Int.ceil_sub_intCast]
  have b0 : 0 ≤ ⌈4194304 * (2 * B - 2)⌉ := Int.ceil_nonneg (by linarith)
  have b0' : ⌈4194304 * (2 * B - 2)⌉ ≤ 134217728 := Int.ceil_le.2 (by push_cast; linarith)
  have b1 : 0 ≤ ⌈4194304 * B⌉ := Int.ceil_nonneg (by linarith)
  have b1' : ⌈4194304 * B⌉ ≤ 134217728 := Int.ceil_le.2 (by push_cast; linarith)
  have b2 : 8388608 ≤ ⌈4194304 * (B / 2 + 2)⌉ := by
    have : ((8388608 : ℤ) : ℝ) ≤ 4194304 * (B / 2 + 2) := by push_cast; linarith
    exact_mod_cast this.trans (Int.le_ceil _)
  have b2' : ⌈4194304 * (B / 2 + 2)⌉ ≤ 134217728 := Int.ceil_le.2 (by push_cast; linarith)
  have b3 : 16777216 ≤ ⌈4194304 * (B / 4 + 4)⌉ := by
    have : ((16777216 : ℤ) : ℝ) ≤ 4194304 * (B / 4 + 4) := by push_cast; linarith
    exact_mod_cast this.trans (Int.le_ceil _)
  have b3' : ⌈4194304 * (B / 4 + 4)⌉ ≤ 134217728 := Int.ceil_le.2 (by push_cast; linarith)
  rw [e0, e1, e2, e3, eF]
  generalize ⌈4194304 * (2 * B - 2)⌉ = k0 at *
  generalize ⌈4194304 * B⌉ = k1 at *
  generalize ⌈4194304 * (B / 2 + 2)⌉ = k2 at *
  generalize ⌈4194304 * (B / 4 + 4)⌉ = k3 at *
  clear eF e0 e1 e2 e3
  obtain ⟨n0, rfl⟩ := Int.eq_ofNat_of_zero_le b0
  obtain ⟨n1, rfl⟩ := Int.eq_ofNat_of_zero_le b1
  obtain ⟨n2, rfl⟩ := Int.eq_ofNat_of_zero_le (le_trans (by norm_num) b2)
  obtain ⟨n3, rfl⟩ := Int.eq_ofNat_of_zero_le (le_trans (by norm_num) b3)
  have t0 : ((n0 : ℤ) + 8388608).toNat + 989855744 = 998244352 + n0 := by omega
  have t1 : ((n1 : ℤ)).toNat + 998244352 = 998244352 + n1 := by omega
  have t2 : ((n2 : ℤ) - 8388608).toNat + 1006632960 = 998244352 + n2 := by omega
  have t3 : ((n3 : ℤ) - 16777216).toNat + 1015021568 = 998244352 + n3 := by omega
  rw [t0, t1, t2, t3, min_nat _ _ (by omega) (by omega), Nat.add_min_add_left, min_nat _ _ (by omega) (by omega), Nat.add_min_add_left,
    min_nat _ _ (by omega) (by omega), Nat.add_min_add_left, ← Nat.cast_min, ← Nat.cast_min, ← Nat.cast_min, Int.toNat_natCast]

/-- The word of the biased random value. -/
theorem rndOf_real (r : Nat) (hr : r < 256) : rndOf (rStep * ((r : ℝ) : EReal)) = BitVec.ofNat 32 (108519423 - r * 16384) := by
  unfold rndOf
  have e : ((rStep * ((r : ℝ) : EReal)) + cst 108519423#32) * cst 2030043136#32 * cst 1258291200#32 = (((16244735 - r * 16384 : ℕ) : ℝ) : EReal) := by
    rw [cStep, cBias, cUp, cUp2, ← EReal.coe_mul, ← EReal.coe_add, ← EReal.coe_mul, ← EReal.coe_mul]
    congr 1
    rw [Nat.cast_sub (by omega)]
    push_cast
    norm_num
    ring
  rw [e, fptosi_nat _ (by omega), add_nat]
  have t : 16244735 - r * 16384 + 92274688 = 108519423 - r * 16384 := by omega
  rw [t]

/-- The index of a magnitude: the least integer that the magnitude exceeds by no more than the random threshold. -/
def idxOf (g : ℝ) (r : Nat) : Nat := ⌈g - ((r : ℝ) + 1 / 2) / 256⌉.toNat

/-- The four lines stay between nought and eight. -/
theorem least_bounds (B : ℝ) (h1 : 1 ≤ B) (h2 : B ≤ 16) : 0 ≤ least B ∧ least B ≤ 8 := by
  unfold least
  constructor
  · exact le_min (le_min (le_min (by linarith) (by linarith)) (by linarith)) (by linarith)
  · exact (min_le_right _ _).trans (by linarith)

/-- The magnitude byte holds seven more than the index. -/
theorem mag_nib (B : ℝ) (h1 : 1 ≤ B) (h2 : B ≤ 16) (r : Nat) (hr : r < 256) :
    idxOf (least B) r ≤ 8 ∧
      (roundOf (IntOp.addi (magOf ((B / 256 : ℝ) : EReal)) (rndOf (rStep * ((r : ℝ) : EReal)))) >>> 2) &&& 0x0F#8
        = BitVec.ofNat 8 (7 + idxOf (least B) r) := by
  rw [magOf_real B h1 h2, rndOf_real r hr, add_nat]
  obtain ⟨g0, g8⟩ := least_bounds B h1 h2
  unfold idxOf
  generalize least B = g at *
  have hr' : (r : ℝ) ≤ 255 := by exact_mod_cast (by omega : r ≤ 255)
  have hr0 : (0 : ℝ) ≤ r := Nat.cast_nonneg r
  have c0 : 0 ≤ ⌈g - ((r : ℝ) + 1 / 2) / 256⌉ := by
    have : (-1 : ℤ) < ⌈g - ((r : ℝ) + 1 / 2) / 256⌉ := Int.lt_ceil.2 (by push_cast; linarith)
    omega
  have c8 : ⌈g - ((r : ℝ) + 1 / 2) / 256⌉ ≤ 8 := Int.ceil_le.2 (by push_cast; linarith)
  have f0 : 0 ≤ ⌈4194304 * g⌉ := Int.ceil_nonneg (by linarith)
  have lo := Int.le_ceil (g - ((r : ℝ) + 1 / 2) / 256)
  have hi := Int.ceil_lt_add_one (g - ((r : ℝ) + 1 / 2) / 256)
  generalize ⌈g - ((r : ℝ) + 1 / 2) / 256⌉ = c at *
  have u : ⌈4194304 * g⌉ ≤ c * 4194304 + r * 16384 + 8192 := Int.ceil_le.2 (by push_cast; linarith)
  have l : c * 4194304 + r * 16384 + 8192 - 4194304 < ⌈4194304 * g⌉ := Int.lt_ceil.2 (by push_cast; linarith)
  generalize ⌈4194304 * g⌉ = f at *
  refine ⟨by omega, nib_word _ _ r (by omega) hr (by omega) (by omega)⟩

end Cert.Quant

end
-- ==== Proof.Math.Scalar.lean ====
/- The kernel's code of a weight is the reference's: both index the same grid with the same random threshold. -/
module

public import proofs.«01_k».proof.Proof.Math.Words
public import proofs.«01_k».proof.Proof.Math.Pack

@[expose] public section

noncomputable section

namespace Cert.Quant

open Idealize.ShloMosaic

/-! ## The reference's index on a real -/

/-- The grid coordinate of a magnitude. -/
def grid (a : ℝ) : ℝ := if a < 2 then 2 * a else if a < 4 then a + 2 else a / 2 + 4

/-- The step of the grid on a real. -/
def stp (a : ℝ) : ℝ := if a < 2 then 1 / 2 else if a < 4 then 1 else 2

/-- The index of a grid value, on a real. -/
def idx (q : ℝ) : ℝ := if q < 2 then 2 * q else if q < 4 then q + 2 else 1 / 2 * q + 4

/-- The magnitude of a real, among the extended reals. -/
theorem max_neg (y : ℝ) : max ((y : ℝ) : EReal) (-(y : EReal)) = ((|y| : ℝ) : EReal) := by
  rw [← EReal.coe_neg, ← EReal.coe_strictMono.monotone.map_max]
  rfl

/-- The step of a real is `stp`. -/
theorem stepOf_real (a : ℝ) : stepOf (a : EReal) = ((stp a : ℝ) : EReal) := by
  unfold stepOf stp
  rw [c2, c4, cHalf]
  simp only [EReal.coe_lt_coe_iff]
  split_ifs <;> first | rfl | exact EReal.coe_one.symm

/-- The index of a real is `idx`. -/
theorem idxRef_real (q : ℝ) : idxRef (q : EReal) = ((idx q : ℝ) : EReal) := by
  unfold idxRef idx
  rw [c2, c4, cHalf]
  simp only [EReal.coe_lt_coe_iff, ← EReal.coe_mul, ← EReal.coe_add]
  split_ifs <;> rfl

/-- The quotient of two reals. -/
theorem div_real (a s : ℝ) (hs : s ≠ 0) : Ideal.div (a : EReal) (s : EReal) = ((a / s : ℝ) : EReal) := by
  rw [Ideal.div_coe hs, ← EReal.coe_mul]
  congr 1
  ring

/-- A truth value as a float is one or zero. -/
theorem bit_real (p : Prop) [Decidable p] :
    FloatOps.sitofp (F := Ideal) .f32 (BitVec.setWidth 32 (BitVec.ofBool (decide p))) = (((if p then 1 else 0 : ℝ)) : EReal) := by
  show ((((BitVec.setWidth 32 (BitVec.ofBool (decide p))).toInt : ℝ)) : EReal) = _
  by_cases h : p
  · rw [if_pos h, decide_eq_true h, show (BitVec.setWidth 32 (BitVec.ofBool true)).toInt = 1 by decide, Int.cast_one]
  · rw [if_neg h, decide_eq_false h, show (BitVec.setWidth 32 (BitVec.ofBool false)).toInt = 0 by decide, Int.cast_zero]

/-- The stochastic rounding of reals. -/
theorem roundRef_real (a s : ℝ) (hs : s ≠ 0) (r : BitVec 8) :
    roundRef (a : EReal) (s : EReal) r
      = ((⌊a / s⌋ * s + s * (if (r.toNat : ℝ) + 1 / 2 < (a - ⌊a / s⌋ * s) / s * 256 then 1 else 0) : ℝ) : EReal) := by
  unfold roundRef
  have hr : FloatOps.uitofp (F := Ideal) .f32 r = ((r.toNat : ℝ) : EReal) := rfl
  rw [bit_real, hr, cHalf, c256, div_real a s hs, Ideal.liftRound_coe, ← EReal.coe_mul, ← EReal.coe_sub, div_real _ s hs]
  simp only [← EReal.coe_mul, ← EReal.coe_add, EReal.coe_lt_coe_iff]

/-- A ceiling below a threshold in (0, 1) is the floor, and one more where the fraction passes the threshold. -/
theorem ceil_sub (z θ : ℝ) (h0 : 0 < θ) (h1 : θ < 1) : ⌈z - θ⌉ = ⌊z⌋ + (if θ < z - ⌊z⌋ then 1 else 0) := by
  have hl := Int.floor_le z
  have hu := Int.lt_floor_add_one z
  rw [Int.ceil_eq_iff]
  split_ifs with h
  · push_cast
    constructor <;> linarith
  · push_cast
    constructor <;> linarith

/-- The reference's index of a magnitude up to six. -/
theorem idx_round (a : ℝ) (h0 : 0 ≤ a) (h6 : a ≤ 6) (r : Nat) (hr : r < 256) :
    idx (⌊a / stp a⌋ * stp a + stp a * (if (r : ℝ) + 1 / 2 < (a - ⌊a / stp a⌋ * stp a) / stp a * 256 then 1 else 0))
      = ((⌈grid a - ((r : ℝ) + 1 / 2) / 256⌉ : ℤ) : ℝ) := by
  have hr' : (r : ℝ) ≤ 255 := by exact_mod_cast (by omega : r ≤ 255)
  have hr0 : (0 : ℝ) ≤ r := Nat.cast_nonneg r
  have hs : 0 < stp a := by unfold stp; split_ifs <;> norm_num
  have e : ((r : ℝ) + 1 / 2 < (a - ⌊a / stp a⌋ * stp a) / stp a * 256) = (((r : ℝ) + 1 / 2) / 256 < a / stp a - ⌊a / stp a⌋) := by
    rw [sub_div, mul_div_assoc, div_self hs.ne', mul_one, div_lt_iff₀ (by norm_num)]
  simp only [e]
  have hθ0 : 0 < ((r : ℝ) + 1 / 2) / 256 := by linarith
  have hθ1 : ((r : ℝ) + 1 / 2) / 256 < 1 := by linarith
  have key := ceil_sub (a / stp a) _ hθ0 hθ1
  generalize ((r : ℝ) + 1 / 2) / 256 = θ at *
  have hd : ∃ d : ℤ, (d = 0 ∨ d = 1) ∧ (if θ < a / stp a - ⌊a / stp a⌋ then (1 : ℝ) else 0) = d ∧ (if θ < a / stp a - ⌊a / stp a⌋ then (1 : ℤ) else 0) = d := by
    split_ifs
    · exact ⟨1, Or.inr rfl, by norm_num, rfl⟩
    · exact ⟨0, Or.inl rfl, by norm_num, rfl⟩
  obtain ⟨d, hd, e1, e2⟩ := hd
  rw [e2] at key
  rw [e1]
  have hfl := Int.floor_le (a / stp a)
  have hfu := Int.lt_floor_add_one (a / stp a)
  clear e e1 e2
  by_cases h2 : a < 2
  · have es : stp a = 1 / 2 := by unfold stp; rw [if_pos h2]
    have eg : grid a = a / (1 / 2) := by unfold grid; rw [if_pos h2]; ring
    rw [es] at key hfl hfu ⊢
    rw [eg, key]
    have f3 : ⌊a / (1 / 2)⌋ < 4 := Int.floor_lt.2 (by push_cast; linarith)
    have fd : ⌊a / (1 / 2)⌋ + d ≤ 4 := by omega
    generalize ⌊a / (1 / 2)⌋ = f at *
    rw [show (f : ℝ) * (1 / 2) + 1 / 2 * (d : ℝ) = ((f + d : ℤ) : ℝ) / 2 by push_cast; ring]
    unfold idx
    rcases fd.eq_or_lt with h | h
    · rw [h]; norm_num
    · rw [if_pos]
      · ring
      · have : ((f + d : ℤ) : ℝ) < 4 := by exact_mod_cast h
        linarith
  · by_cases h4 : a < 4
    · have es : stp a = 1 := by unfold stp; rw [if_neg h2, if_pos h4]
      have eg : grid a = a / 1 + 2 := by unfold grid; rw [if_neg h2, if_pos h4]; ring
      rw [es] at key hfl hfu ⊢
      rw [eg, show a / 1 + 2 - θ = a / 1 - θ + ((2 : ℤ) : ℝ) by push_cast; ring, Int.ceil_add_intCast, key]
      have f3 : ⌊a / 1⌋ < 4 := Int.floor_lt.2 (by push_cast; linarith)
      have f2 : 2 ≤ ⌊a / 1⌋ := Int.le_floor.2 (by push_cast; linarith)
      have fd : ⌊a / 1⌋ + d ≤ 4 := by omega
      have fd2 : 2 ≤ ⌊a / 1⌋ + d := by omega
      generalize ⌊a / 1⌋ = f at *
      rw [show (f : ℝ) * 1 + 1 * (d : ℝ) = ((f + d : ℤ) : ℝ) by push_cast; ring]
      have g2 : (2 : ℝ) ≤ ((f + d : ℤ) : ℝ) := by exact_mod_cast fd2
      unfold idx
      rw [if_neg (not_lt.2 g2)]
      rcases fd.eq_or_lt with h | h
      · rw [h]; norm_num
      · rw [if_pos (by exact_mod_cast h)]
        push_cast; ring
    · have es : stp a = 2 := by unfold stp; rw [if_neg h2, if_neg h4]
      have eg : grid a = a / 2 + 4 := by unfold grid; rw [if_neg h2, if_neg h4]
      rw [es] at key hfl hfu ⊢
      rw [eg, show a / 2 + 4 - θ = a / 2 - θ + ((4 : ℤ) : ℝ) by push_cast; ring, Int.ceil_add_intCast, key]
      have f2 : 2 ≤ ⌊a / 2⌋ := Int.le_floor.2 (by push_cast; linarith)
      have fd2 : 2 ≤ ⌊a / 2⌋ + d := by omega
      generalize ⌊a / 2⌋ = f at *
      have g2 : (2 : ℝ) ≤ ((f + d : ℤ) : ℝ) := by exact_mod_cast fd2
      rw [show (f : ℝ) * 2 + 2 * (d : ℝ) = 2 * ((f + d : ℤ) : ℝ) by push_cast; ring]
      unfold idx
      rw [if_neg (by linarith), if_neg (by linarith)]
      push_cast; ring

/-- The reference's byte of a clipped weight. -/
theorem byteRef_real (y : ℝ) (h : |y| ≤ 6) (r : BitVec 8) : byteRef (y : EReal) r = BitVec.ofNat 8 (idxOf (grid |y|) r.toNat) := by
  have hs : stp |y| ≠ 0 := by unfold stp; split_ifs <;> norm_num
  unfold byteRef
  rw [max_neg, stepOf_real, roundRef_real _ _ hs, idxRef_real, idx_round _ (abs_nonneg y) h _ r.isLt]
  show Ideal.fptoui 8 _ = _
  unfold Ideal.fptoui idxOf
  have hr' : (r.toNat : ℝ) ≤ 255 := by exact_mod_cast (by have := r.isLt; omega : r.toNat ≤ 255)
  have hg : 0 ≤ grid |y| ∧ grid |y| ≤ 7 := by
    have := abs_nonneg y
    unfold grid
    split_ifs <;> constructor <;> linarith
  have c0 : 0 ≤ ⌈grid |y| - ((r.toNat : ℝ) + 1 / 2) / 256⌉ := by
    have : (-1 : ℤ) < ⌈grid |y| - ((r.toNat : ℝ) + 1 / 2) / 256⌉ := Int.lt_ceil.2 (by push_cast; linarith)
    omega
  have c7 : ⌈grid |y| - ((r.toNat : ℝ) + 1 / 2) / 256⌉ ≤ 7 := Int.ceil_le.2 (by push_cast; have : (0 : ℝ) ≤ r.toNat := Nat.cast_nonneg _; linarith)
  generalize ⌈grid |y| - ((r.toNat : ℝ) + 1 / 2) / 256⌉ = k at *
  obtain ⟨n, rfl⟩ := Int.eq_ofNat_of_zero_le c0
  rw [Ideal.toIntClamped_coe, if_pos (by exact_mod_cast Nat.zero_le n), Int.toNat_natCast, Int.floor_intCast, ← BitVec.ofInt_natCast]
  congr 1
  norm_num
  omega

/-! ## The kernel's index is the reference's -/

/-- Up to six the four lines are the grid coordinate. -/
theorem least_grid (A : ℝ) (h0 : 0 ≤ A) (h6 : A ≤ 6) : least (min (A + max A 1) 16) = grid A := by
  have eB : min (A + max A 1) 16 = A + max A 1 := by
    rcases max_cases A 1 with h | h <;> rw [h.1] <;> apply min_eq_left <;> linarith
  rw [eB]
  unfold least grid
  rcases max_cases A 1 with h | h <;> rw [h.1]
  · rw [min_eq_right (a := 2 * (A + A) - 2) (b := A + A) (by linarith)]
    split_ifs
    · rw [min_eq_left (a := A + A) (b := (A + A) / 2 + 2) (by linarith), min_eq_left (by linarith)]; ring
    · rw [min_eq_right (a := A + A) (b := (A + A) / 2 + 2) (by linarith), min_eq_left (by linarith)]; ring
    · rw [min_eq_right (a := A + A) (b := (A + A) / 2 + 2) (by linarith), min_eq_right (by linarith)]; ring
  · rw [if_pos (by linarith), min_eq_left (a := 2 * (A + 1) - 2) (b := A + 1) (by linarith),
      min_eq_left (a := 2 * (A + 1) - 2) (b := (A + 1) / 2 + 2) (by linarith), min_eq_left (by linarith)]; ring

/-- The indices agree up to the grid's end. -/
theorem idx_small (A : ℝ) (h0 : 0 ≤ A) (h6 : A ≤ 6) (r : Nat) : min (idxOf (least (min (A + max A 1) 16)) r) 7 = idxOf (grid A) r := by
  rw [least_grid A h0 h6]
  apply min_eq_left
  unfold idxOf
  have : ⌈grid A - ((r : ℝ) + 1 / 2) / 256⌉ ≤ 7 := Int.ceil_le.2 (by
    have : (0 : ℝ) ≤ r := Nat.cast_nonneg _
    have : grid A ≤ 7 := by unfold grid; split_ifs <;> linarith
    push_cast; linarith)
  omega

/-- Beyond the grid's end both indices are its last. -/
theorem idx_large (B : ℝ) (h : 12 ≤ B) (r : Nat) (hr : r < 256) : min (idxOf (least B) r) 7 = idxOf (grid 6) r := by
  have hr' : (r : ℝ) ≤ 255 := by exact_mod_cast (by omega : r ≤ 255)
  have h7 : 7 ≤ least B := by
    unfold least
    exact le_min (le_min (le_min (by linarith) (by linarith)) (by linarith)) (by linarith)
  have g6 : grid 6 = 7 := by unfold grid; norm_num
  have a : (6 : ℤ) < ⌈least B - ((r : ℝ) + 1 / 2) / 256⌉ := Int.lt_ceil.2 (by push_cast; linarith)
  have b : (6 : ℤ) < ⌈(7 : ℝ) - ((r : ℝ) + 1 / 2) / 256⌉ := Int.lt_ceil.2 (by push_cast; linarith)
  have c : ⌈(7 : ℝ) - ((r : ℝ) + 1 / 2) / 256⌉ ≤ 7 := Int.ceil_le.2 (by push_cast; have : (0 : ℝ) ≤ r := Nat.cast_nonneg _; linarith)
  unfold idxOf
  rw [g6]
  omega

/-- Equal indices and equal signs give equal codes. -/
theorem nib_eq (y : ℝ) (hy : |y| ≤ 6) (r : BitVec 8) (I : Nat) (hI : min I 7 = idxOf (grid |y|) r.toNat) (neg : Prop) [Decidable neg]
    (hn : y < 0 ↔ neg) : nibOf I neg = nibRef (y : EReal) r := by
  unfold nibOf nibRef
  rw [byteRef_real y hy, ← hI]
  have e : (0#8 < BitVec.ofNat 8 (min I 7)) ↔ 0 < I := by
    rw [BitVec.lt_def, BitVec.toNat_ofNat, BitVec.toNat_ofNat]
    omega
  have e' : ((y : EReal) < 0) ↔ neg := by rw [← hn]; exact EReal.coe_neg'
  simp only [e, e']

/-- What a weight, its decode scale and its reference decode scale must satisfy: an index that both codes use. -/
def Agrees (w d dec : EReal) (r : BitVec 8) : Prop :=
  ∃ I : Nat, I ≤ 8 ∧ (magByteOf w (rStep * ((r.toNat : ℝ) : EReal)) d (invOf d) >>> 2) &&& 0x0F#8 = BitVec.ofNat 8 (7 + I)
    ∧ nibOf I (w < 0) = nibRef (clipOf w dec) r

/-- Agreement from the kernel's scaled magnitude and the reference's clipped weight. -/
theorem agrees_of (w d dec : EReal) (r : BitVec 8) (B y : ℝ) (h1 : 1 ≤ B) (h2 : B ≤ 16) (hs : scaled w d (invOf d) = ((B / 256 : ℝ) : EReal))
    (hy : |y| ≤ 6) (hc : clipOf w dec = (y : EReal)) (hI : min (idxOf (least B) r.toNat) 7 = idxOf (grid |y|) r.toNat) (hn : y < 0 ↔ w < 0) :
    Agrees w d dec r := by
  obtain ⟨h8, hb⟩ := mag_nib B h1 h2 r.toNat r.isLt
  refine ⟨_, h8, ?_, ?_⟩
  · unfold magByteOf
    rw [hs]
    exact hb
  · rw [hc]
    exact nib_eq y hy r _ hI _ hn

/-- The reciprocal of 256 times a positive real. -/
theorem invOf_real (d : ℝ) (hd : 0 < d) : invOf (d : EReal) = ((1 / (d * 256) : ℝ) : EReal) := by
  unfold invOf
  rw [c256, ← EReal.coe_mul, ← EReal.coe_one, div_real _ _ (by positivity)]

/-- The minimum of two reals. -/
theorem min_real (a b : ℝ) : min (a : EReal) (b : EReal) = ((min a b : ℝ) : EReal) := (EReal.coe_strictMono.monotone.map_min).symm
/-- The maximum of two reals. -/
theorem max_real (a b : ℝ) : max (a : EReal) (b : EReal) = ((max a b : ℝ) : EReal) := (EReal.coe_strictMono.monotone.map_max).symm

/-- The clipped weight over a positive decode scale. -/
theorem clip_pos (w : EReal) (d : ℝ) (hd : 0 < d) :
    clipOf w (d : EReal) = min ((6 : ℝ) : EReal) (max ((-6 : ℝ) : EReal) (w * ((1 / d : ℝ) : EReal))) := by
  unfold clipOf
  rw [if_pos (EReal.coe_pos.2 hd), if_pos (EReal.coe_pos.2 hd), c6, cm6, Ideal.div_coe hd.ne']

/-- A positive decode scale: the codes agree at every weight. -/
theorem agrees_pos (w : EReal) (d : ℝ) (hd : 0 < d) (r : BitVec 8) : Agrees w (d : EReal) (d : EReal) r := by
  have hi : 0 < 1 / (d * 256) := by positivity
  induction w with
  | bot =>
    refine agrees_of _ _ _ r 16 (-6) (by norm_num) (by norm_num) ?_ (by norm_num) ?_ ?_ ?_
    · unfold scaled
      rw [invOf_real d hd, cTop, EReal.neg_bot, max_eq_right bot_le, max_eq_left le_top, EReal.top_add_top, EReal.top_mul_coe_of_pos hi, min_eq_right le_top]
      norm_num
    · rw [clip_pos _ d hd, EReal.bot_mul_coe_of_pos (by positivity), max_eq_left bot_le, min_real]
      norm_num
    · rw [show |(-6 : ℝ)| = 6 by norm_num]
      exact idx_large 16 (by norm_num) _ r.isLt
    · simp
  | top =>
    refine agrees_of _ _ _ r 16 6 (by norm_num) (by norm_num) ?_ (by norm_num) ?_ ?_ ?_
    · unfold scaled
      rw [invOf_real d hd, cTop, max_eq_left le_top, max_eq_left le_top, EReal.top_add_top, EReal.top_mul_coe_of_pos hi, min_eq_right le_top]
      norm_num
    · rw [clip_pos _ d hd, EReal.top_mul_coe_of_pos (by positivity), max_eq_right le_top, min_eq_left le_top]
    · rw [show |(6 : ℝ)| = 6 by norm_num]
      exact idx_large 16 (by norm_num) _ r.isLt
    · simp
  | coe w =>
    have hA : 0 ≤ |w| / d := by positivity
    have hm : 1 ≤ max (|w| / d) 1 := le_max_right _ _
    refine agrees_of _ _ _ r (min (|w| / d + max (|w| / d) 1) 16) (min 6 (max (-6) (w / d))) (le_min (by linarith) (by norm_num)) (min_le_right _ _) ?_ ?_ ?_ ?_ ?_
    · unfold scaled
      rw [invOf_real d hd, cTop, max_neg, max_real, ← EReal.coe_add, ← EReal.coe_mul, min_real]
      congr 1
      have e : max |w| d = max (|w| / d) 1 * d := by
        rw [max_mul_of_nonneg _ _ hd.le, div_mul_cancel₀ _ hd.ne', one_mul]
      rw [e, ← min_div_div_right (by norm_num : (0 : ℝ) ≤ 256)]
      congr 1
      · field_simp
      · norm_num
    · rw [abs_le]
      exact ⟨le_min (by norm_num) (le_max_left _ _), min_le_left _ _⟩
    · rw [clip_pos _ d hd, ← EReal.coe_mul, max_real, min_real]
      congr 3
      ring
    · have ea : |w| / d = |w / d| := by rw [abs_div, abs_of_pos hd]
      rw [ea]
      generalize w / d = z
      by_cases h6 : |z| ≤ 6
      · rw [max_eq_right (abs_le.1 h6).1, min_eq_right (abs_le.1 h6).2]
        exact idx_small _ (abs_nonneg z) h6 _
      · have h6' : 6 < |z| := not_le.1 h6
        have eb : |min 6 (max (-6) z)| = 6 := by
          rcases lt_abs.1 h6' with h | h
          · rw [max_eq_right (by linarith), min_eq_left h.le]; norm_num
          · rw [max_eq_left (by linarith), min_eq_right (by norm_num)]; norm_num
        rw [eb]
        exact idx_large _ (le_min (by have := le_max_left |z| 1; linarith) (by norm_num)) _ r.isLt
    · have e : w / d < 0 ↔ w < 0 := by
        rw [div_lt_iff₀ hd, zero_mul]
      rw [EReal.coe_neg', ← e]
      simp

/-- A weight of nought under a decode scale of nought, the kernel dividing by 2^116: both codes are nought. -/
theorem agrees_zero (r : BitVec 8) : Agrees 0 (cst 2038431744#32) 0 r := by
  have h := agrees_pos 0 (2 ^ 116) (by norm_num) r
  rw [← cDead] at h
  obtain ⟨I, h8, hb, hn⟩ := h
  refine ⟨I, h8, hb, hn.trans ?_⟩
  congr 1
  rw [cDead, clip_pos _ _ (by norm_num), zero_mul]
  unfold clipOf
  rw [if_neg (lt_irrefl _), c6, cm6]

/-! ## The scales -/

/-- The tensor scale of a previous maximum below infinity is a positive real. -/
theorem tsOf_real (a : EReal) (ha : a < ⊤) : ∃ t : ℝ, 0 < t ∧ tsOf a = (t : EReal) := by
  unfold tsOf
  by_cases h : 0 < a
  · rw [if_pos h]
    lift a to ℝ using ⟨ha.ne, (bot_le.trans_lt h).ne'⟩
    refine ⟨a / 2688, div_pos (EReal.coe_pos.1 h) (by norm_num), ?_⟩
    rw [c2688, div_real _ _ (by norm_num)]
  · rw [if_neg h]
    exact ⟨1, one_pos, EReal.coe_one.symm⟩

/-- A tensor scale is positive. -/
theorem tsOf_pos (a : EReal) : 0 < tsOf a := by
  unfold tsOf
  split_ifs with h
  · rw [c2688, Ideal.div_coe (by norm_num)]
    exact EReal.mul_pos h (EReal.coe_pos.2 (by norm_num))
  · exact zero_lt_one

/-- Multiplying by the reciprocal is dividing. -/
theorem sb_eq (amax a : EReal) : sbOf amax (rkOf a) = sbRef amax (tsOf a) := by
  have h : cst 1086324736#32 * tsOf a ≠ 0 := by
    rw [c6]
    exact (EReal.mul_pos (EReal.coe_pos.2 (by norm_num)) (tsOf_pos a)).ne'
  unfold sbOf sbRef rkOf Ideal.div
  rw [if_neg h, if_neg h, one_mul]

/-- A block's greatest magnitude is not negative. -/
theorem le_amaxOf (f : Fin 16 → EReal) (p : Fin 16) : max (f p) (-(f p)) ≤ amaxOf f := by
  unfold amaxOf
  rw [Finset.le_fold_max]
  exact Or.inr ⟨p, Finset.mem_univ p, le_rfl⟩

/-- A magnitude is not negative. -/
theorem abs_nonneg' (x : EReal) : 0 ≤ max x (-x) := by
  rcases le_total 0 x with h | h
  · exact h.trans (le_max_left _ _)
  · exact (EReal.neg_nonneg.2 h).trans (le_max_right _ _)

/-- The codes of a block agree. -/
theorem agrees (a : EReal) (ha : a < ⊤) (f : Fin 16 → EReal) (p : Fin 16) (r : BitVec 8) :
    Agrees (f p) (decOf (amaxOf f) (tsOf a) (rkOf a)) (sbRef (amaxOf f) (tsOf a) * tsOf a) r := by
  unfold decOf
  rw [sb_eq]
  obtain ⟨t, ht, et⟩ := tsOf_real a ha
  have hM := (abs_nonneg' (f p)).trans (le_amaxOf f p)
  have hp := le_amaxOf f p
  rw [et]
  unfold sbRef
  have hk : 0 < 1 / (6 * t) := by positivity
  rw [c6, ← EReal.coe_mul, Ideal.div_coe (by positivity), c448]
  generalize amaxOf f = M at *
  have hs0 : 0 ≤ min (M * ((1 / (6 * t) : ℝ) : EReal)) ((448 : ℝ) : EReal) :=
    le_min (mul_nonneg hM (EReal.coe_nonneg.2 hk.le)) (EReal.coe_nonneg.2 (by norm_num))
  obtain ⟨s, hs⟩ : ∃ s : ℝ, min (M * ((1 / (6 * t) : ℝ) : EReal)) ((448 : ℝ) : EReal) = (s : EReal) := by
    refine ⟨_, (EReal.coe_toReal ?_ ?_).symm⟩
    · exact ((min_le_right _ _).trans_lt (EReal.coe_lt_top _)).ne
    · exact ((EReal.bot_lt_coe 0).trans_le hs0).ne'
  rw [hs] at hs0 ⊢
  rw [← EReal.coe_mul]
  have hs0' : 0 ≤ s := EReal.coe_nonneg.1 hs0
  rcases hs0'.eq_or_lt with h0 | h0
  · subst h0
    have hM0 : M = 0 := by
      by_contra hne
      have hpos : 0 < M := lt_of_le_of_ne hM (Ne.symm hne)
      have h1 : 0 < M * ((1 / (6 * t) : ℝ) : EReal) := EReal.mul_pos hpos (EReal.coe_pos.2 hk)
      have h2 : (0 : EReal) < min (M * ((1 / (6 * t) : ℝ) : EReal)) ((448 : ℝ) : EReal) := lt_min h1 (EReal.coe_pos.2 (by norm_num))
      rw [hs] at h2
      exact lt_irrefl _ h2
    have hw : f p = 0 := by
      rw [hM0] at hp
      apply le_antisymm ((le_max_left _ _).trans hp)
      rw [← EReal.neg_le_neg_iff, neg_zero]
      exact (le_max_right _ _).trans hp
    rw [hw, zero_mul, EReal.coe_zero, if_neg (lt_irrefl _)]
    exact agrees_zero r
  · have hd : 0 < s * t := mul_pos h0 ht
    rw [if_pos (EReal.coe_pos.2 hd)]
    exact agrees_pos _ _ hd r

end Cert.Quant

end
-- ==== Proof.Math.Result.lean ====
/- The results both programs return, as functions of the arguments, and the sums of the two matrix products. -/
module

public import proofs.«01_k».proof.Proof.Math.Scalar

@[expose] public section

noncomputable section

namespace Cert.Quant

open Idealize.ShloMosaic
open scoped BigOperators

/-- A transformed weight: position `i` of block `n` of a channel, the sum of sixteen tokens under the signed Hadamard matrix. -/
def wt (x : Fin 4 → Fin 6144 → Fin 4096 → EReal) (g : Fin 16 → EReal) (b : Fin 4) (c : Fin 4096) (n : Fin 384) (i : Fin 16) : EReal :=
  ∑ j : Fin 16, had i.val j.val (g j) * x b ⟨n.val * 16 + j.val, by omega⟩ c

/-- The block maximum of a block of sixteen weights. -/
def resAmax (x : Fin 4 → Fin 6144 → Fin 4096 → EReal) (g : Fin 16 → EReal) (b : Fin 4) (c : Fin 4096) (n : Fin 384) : EReal :=
  amaxOf fun i => wt x g b c n i

/-- The block scale. -/
def resSb (x : Fin 4 → Fin 6144 → Fin 4096 → EReal) (g : Fin 16 → EReal) (a : EReal) (b : Fin 4) (c : Fin 4096) (n : Fin 384) : EReal :=
  sbRef (resAmax x g b c n) (tsOf a)

/-- The code of one weight. -/
def resNib (x : Fin 4 → Fin 6144 → Fin 4096 → EReal) (g : Fin 16 → EReal) (r : Fin 4 → Fin 4096 → Fin 6144 → BitVec 8) (a : EReal)
    (b : Fin 4) (c : Fin 4096) (n : Fin 384) (i : Fin 16) : BitVec 8 :=
  nibRef (clipOf (wt x g b c n i) (resSb x g a b c n * tsOf a)) (r b c ⟨n.val * 16 + i.val, by omega⟩)

/-- The byte of two codes. -/
def resCode (x : Fin 4 → Fin 6144 → Fin 4096 → EReal) (g : Fin 16 → EReal) (r : Fin 4 → Fin 4096 → Fin 6144 → BitVec 8) (a : EReal)
    (b : Fin 4) (c : Fin 4096) (p : Fin 3072) : BitVec 8 :=
  resNib x g r a b c ⟨p.val / 8, by omega⟩ ⟨p.val % 8 * 2, by omega⟩
    ||| (resNib x g r a b c ⟨p.val / 8, by omega⟩ ⟨p.val % 8 * 2 + 1, by omega⟩ <<< 4)

/-- A sum over 256 that only one block of sixteen enters. -/
theorem sum_block (f : Fin 256 → EReal) (n : Nat) (hn : n < 16) (h : ∀ k : Fin 256, k.val / 16 ≠ n → f k = 0) :
    ∑ k : Fin 256, f k = ∑ j : Fin 16, f ⟨n * 16 + j.val, by omega⟩ := by
  symm
  refine Finset.sum_bij_ne_zero (fun j _ _ => ⟨n * 16 + j.val, by omega⟩) (fun _ _ _ => Finset.mem_univ _)
    (fun a _ _ b _ _ e => Fin.ext (by have := congrArg Fin.val e; simp only at this; omega)) (fun k _ hk => ?_) (fun _ _ _ => rfl)
  have hk' : k.val / 16 = n := by by_contra hne; exact hk (h k hne)
  have e : (⟨n * 16 + k.val % 16, by omega⟩ : Fin 256) = k := Fin.ext (by simp only; omega)
  refine ⟨⟨k.val % 16, by omega⟩, Finset.mem_univ _, ?_, e⟩
  simp only
  rw [e]
  exact hk

/-- A sum over 256 that only one entry enters. -/
theorem sum_one (f : Fin 256 → EReal) (n : Fin 256) (h : ∀ k : Fin 256, k ≠ n → f k = 0) : ∑ k : Fin 256, f k = f n :=
  Finset.sum_eq_single n (fun k _ hk => h k hk) (fun h => absurd (Finset.mem_univ n) h)

end Cert.Quant

end
-- ==== Proof.Live.Block.lean ====
/- What the body leaves in each output block, at an index. -/
module

public import proofs.«01_k».proof.Proof.Live.Mats
public import proofs.«01_k».proof.Proof.Live.TileCodes
public import proofs.«01_k».proof.Proof.Live.TileFloat
public import proofs.«01_k».proof.Proof.Math.Result
public import Idealize.ShloMosaic.Lib.Pipeline.ValueKit

@[expose] public section

set_option maxRecDepth 16384

noncomputable section

namespace Cert.KernelIdeal.Live

open Idealize.ShloMosaic Idealize.ShloMosaic.Tactic Idealize.ShloMosaic.Pointwise
open Cert.KernelIdeal.Gen Cert.Quant
open scoped BigOperators

/-- A transformed weight of a block of tokens: position `i` of block `n`, channel `l`. -/
def wB (g : Vec Ideal S1x256 .f32) (x : Vec Ideal S1x2048x256 .bf16) (n : Fin 128) (i : Fin 16) (l : Fin 256) : EReal :=
  ∑ j : Fin 16, had i.val j.val (g (ix2 0 ⟨n.val % 16 * 16 + j.val, by omega⟩)) * x (ix3 0 ⟨n.val * 16 + j.val, by omega⟩ l)

/-- A tile of x at an index of the block. -/
theorem xTiles_apply (x : Vec Ideal S1x2048x256 .bf16) (t : Nat) (ht : t < 8) (k l : Fin 256) :
    xTiles x t ht (ix3 0 k l) = x (ix3 0 ⟨256 * t + k.val, by omega⟩ l) := by
  unfold xTiles xRect
  pointwise

/-- A tile of random bytes at an index of the block. -/
theorem rTiles_apply (x : Vec Ideal S1x256x2048 .i8) (t : Nat) (ht : t < 8) (k l : Fin 256) :
    rTiles x t ht (ix3 0 l k) = x (ix3 0 l ⟨256 * t + k.val, by omega⟩) := by
  unfold rTiles rRect
  pointwise

/-- The weights of a tile. -/
theorem tileW_block (g : Vec Ideal S1x256 .f32) (x : Vec Ideal S1x2048x256 .bf16) (t : Nat) (ht : t < 8) (i n : Fin 16) (l : Fin 256) :
    tileW (hMat g) (xTiles x t ht) (ix3 i n l) = wB g x ⟨16 * t + n.val, by omega⟩ i l := by
  rw [tileW_apply]
  have e1 : (i.val * 16 + n.val) % 16 = n.val := by omega
  have e2 : (i.val * 16 + n.val) / 16 = i.val := by omega
  rw [sum_block _ n.val n.isLt fun k hk => by
    rw [hMat_apply, if_neg (by simp only; omega), zero_mul]]
  unfold wB
  refine Finset.sum_congr rfl fun j _ => ?_
  rw [hMat_apply, if_pos (by simp only; omega), xTiles_apply]
  have e3 : (16 * t + n.val) % 16 = n.val := by omega
  have e4 : (n.val * 16 + j.val) % 16 = j.val := by omega
  have e5 : 256 * t + (n.val * 16 + j.val) = (16 * t + n.val) * 16 + j.val := by omega
  simp only [e2, e3, e4, e5]

/-- The random values of a tile. -/
theorem tileR_block (x : Vec Ideal S1x256x2048 .i8) (t : Nat) (ht : t < 8) (i n : Fin 16) (l : Fin 256) :
    tileR (pMat (F := Ideal)) (rTiles x t ht) (ix3 i n l) = rStep * (((x (ix3 0 l ⟨(16 * t + n.val) * 16 + i.val, by omega⟩) : BitVec 8).toNat : ℝ) : EReal) := by
  rw [tileR_apply]
  rw [sum_one _ ⟨n.val * 16 + i.val, by omega⟩ fun k hk => by
    rw [pMat_apply, if_neg, zero_mul]
    intro h
    apply hk
    apply Fin.ext
    simp only at h ⊢
    omega]
  rw [pMat_apply, if_pos (by simp only; omega), rTiles_apply]
  have e5 : 256 * t + (n.val * 16 + i.val) = (16 * t + n.val) * 16 + i.val := by omega
  simp only [e5]

/-- The maxima of eight tiles given as a family. -/
theorem amaxAll_family (A : Fin 8 → FVec Ideal S16x128 .f32) (l q : Fin 128) (n : Fin 16) (t : Fin 8) (hq : q.val = 16 * t.val + n.val) :
    amaxAll (A ⟨0, by decide⟩) (A ⟨1, by decide⟩) (A ⟨2, by decide⟩) (A ⟨3, by decide⟩) (A ⟨4, by decide⟩) (A ⟨5, by decide⟩) (A ⟨6, by decide⟩)
      (A ⟨7, by decide⟩) (ix2 l q) = A t (ix2 n l) := by
  rw [amaxAll_apply _ _ _ _ _ _ _ _ l q n t hq]
  fin_cases t <;> rfl

/-- The block maxima of a half of the channels. -/
theorem halfAmax_block (g : Vec Ideal S1x256 .f32) (x : Vec Ideal S1x2048x256 .bf16) (c : Nat) (hc : c < 2) (l q : Fin 128) :
    halfAmax (hMat g) (xTiles x) c hc (ix2 l q) = amaxOf fun i => wB g x q i ⟨128 * c + l.val, by omega⟩ := by
  unfold halfAmax
  refine (amaxAll_family (fun t => chunkAmax (half c hc (tileW (hMat g) (xTiles x t.val t.isLt)))) l q ⟨q.val % 16, by omega⟩ ⟨q.val / 16, by omega⟩
    (by simp only; omega)).trans ?_
  simp only
  rw [chunkAmax_apply]
  congr 1
  funext i
  rw [half_apply, tileW_block]
  congr 1
  apply Fin.ext
  simp only
  omega

/-- An index of a stored half by its coordinates. -/
theorem idx_half (z : S1x128x128.Idx) : ∃ l q : Fin 128, (z 1).val = l.val ∧ (z 2).val = q.val ∧ z = ix3 0 l q := by
  refine ⟨⟨(z 1).val, (z 1).isLt⟩, ⟨(z 2).val, (z 2).isLt⟩, rfl, rfl, ?_⟩
  funext a
  fin_cases a
  · exact Fin.ext (by have : (z 0).val < 1 := (z 0).isLt; show (z 0).val = 0; omega)
  · rfl
  · rfl

/-- One store of block maxima, at the place of the block it lands on. -/
theorem amax_piece (g : Vec Ideal S1x256 .f32) (x : Vec Ideal S1x2048x256 .bf16) (c : Nat) (hc : c < 2) (l : Fin 256) (q : Fin 128) (z : S1x128x128.Idx)
    (h1 : l.val = 128 * c + (z 1).val) (h2 : q.val = (z 2).val) :
    storeAmax (halfAmax (hMat g) (xTiles x) c hc) z = amaxOf fun i => wB g x q i l := by
  obtain ⟨l', q', hl, hq, rfl⟩ := idx_half z
  rw [hl] at h1
  rw [hq] at h2
  rw [storeAmax_apply, halfAmax_block]
  have e1 : (⟨128 * c + l'.val, by omega⟩ : Fin 256) = l := Fin.ext h1.symm
  have e2 : q = q' := Fin.ext h2
  rw [e1, e2]

/-- The block of maxima at an index. -/
theorem amax_block (g : Vec Ideal S1x256 .f32) (x : Vec Ideal S1x2048x256 .bf16) (l : Fin 256) (q : Fin 128) :
    View.canon (amaxPieces (hMat g) (xTiles x)) (ix3 0 l q) = amaxOf fun i => wB g x q i l := by
  unfold amaxPieces amaxPiece chanRect
  canon_tiles z h
  · exact amax_piece g x 1 _ l q z h1 h2
  · exact amax_piece g x 0 _ l q z (by rw [Nat.mul_zero, Nat.zero_add]; exact h1) h2

/-- One store of block scales, at the place of the block it lands on. -/
theorem sb_piece (g : Vec Ideal S1x256 .f32) (x : Vec Ideal S1x2048x256 .bf16) (a : Elt Ideal .f32) (c : Nat) (hc : c < 2) (l : Fin 256) (q : Fin 128) (z : S1x128x128.Idx)
    (h1 : l.val = 128 * c + (z 1).val) (h2 : q.val = (z 2).val) :
    storeSb (halfAmax (hMat g) (xTiles x) c hc) (entry (rkRow (F := Ideal) a)) z = sbRef (amaxOf fun i => wB g x q i l) (tsOf a) := by
  obtain ⟨l', q', hl, hq, rfl⟩ := idx_half z
  rw [hl] at h1
  rw [hq] at h2
  rw [storeSb_apply, halfAmax_block, entry_apply, rkRow_apply, sb_eq]
  have e1 : (⟨128 * c + l'.val, by omega⟩ : Fin 256) = l := Fin.ext h1.symm
  have e2 : q = q' := Fin.ext h2
  rw [e1, e2]

/-- The block of block scales at an index. -/
theorem sb_block (g : Vec Ideal S1x256 .f32) (x : Vec Ideal S1x2048x256 .bf16) (a : Elt Ideal .f32) (l : Fin 256) (q : Fin 128) :
    View.canon (sbPieces (hMat g) (xTiles x) (rkRow (F := Ideal) a)) (ix3 0 l q) = sbRef (amaxOf fun i => wB g x q i l) (tsOf a) := by
  unfold sbPieces sbPiece chanRect
  canon_tiles z h
  · exact sb_piece g x a 1 _ l q z h1 h2
  · exact sb_piece g x a 0 _ l q z (by rw [Nat.mul_zero, Nat.zero_add]; exact h1) h2

/-- The reference's code of a weight of the block. -/
def nibB (g : Vec Ideal S1x256 .f32) (x : Vec Ideal S1x2048x256 .bf16) (r : Vec Ideal S1x256x2048 .i8) (a : Elt Ideal .f32) (l : Fin 256) (n : Fin 128) (i : Fin 16) : BitVec 8 :=
  nibRef (clipOf (wB g x n i l) (sbRef (amaxOf fun i => wB g x n i l) (tsOf a) * tsOf a)) (r (ix3 0 l ⟨n.val * 16 + i.val, by omega⟩))

/-- One store of codes, at the place of the block it lands on: the two codes of the byte. -/
theorem codes_piece (g : Vec Ideal S1x256 .f32) (x : Vec Ideal S1x2048x256 .bf16) (r : Vec Ideal S1x256x2048 .i8) (a : Elt Ideal .f32) (ha : (a : EReal) < ⊤)
    (t c : Nat) (ht : t < 8) (hc : c < 2) (l : Fin 256) (p : Fin 1024) (z : S1x128x128.Idx)
    (h1 : l.val = 128 * c + (z 1).val) (h2 : p.val = 128 * t + (z 2).val) :
    storeCodes (chunkCodes (half c hc (tileW (hMat g) (xTiles x t ht))) (half c hc (tileR (pMat (F := Ideal)) (rTiles r t ht))) (entry (tsRow (F := Ideal) a)) (entry (rkRow (F := Ideal) a))) z
      = nibB g x r a l ⟨p.val / 8, by omega⟩ ⟨p.val % 8 * 2, by omega⟩ ||| (nibB g x r a l ⟨p.val / 8, by omega⟩ ⟨p.val % 8 * 2 + 1, by omega⟩ <<< 4) := by
  obtain ⟨l', q', hl, hq, rfl⟩ := idx_half z
  rw [hl] at h1
  rw [hq] at h2
  have e1 : (⟨128 * c + l'.val, by omega⟩ : Fin 256) = l := Fin.ext h1.symm
  have ew : ∀ i n : Fin 16, half c hc (tileW (hMat g) (xTiles x t ht)) (ix3 i n l') = wB g x ⟨16 * t + n.val, by omega⟩ i l := by
    intro i n
    rw [half_apply, tileW_block, e1]
  have er : ∀ i n : Fin 16, half c hc (tileR (pMat (F := Ideal)) (rTiles r t ht)) (ix3 i n l')
      = rStep * (((r (ix3 0 l ⟨(16 * t + n.val) * 16 + i.val, by omega⟩) : BitVec 8).toNat : ℝ) : EReal) := by
    intro i n
    rw [half_apply, tileR_block, e1]
  have ed : ∀ n : Fin 16, chunkDec (half c hc (tileW (hMat g) (xTiles x t ht))) (entry (tsRow (F := Ideal) a)) (entry (rkRow (F := Ideal) a)) (ix2 n l')
      = decOf (amaxOf fun i => wB g x ⟨16 * t + n.val, by omega⟩ i l) (tsOf a) (rkOf a) := by
    intro n
    rw [chunkDec_apply, entry_apply, entry_apply, tsRow_apply, rkRow_apply]
    simp only [ew]
  have ag := fun (i n : Fin 16) => agrees a ha (fun i => wB g x ⟨16 * t + n.val, by omega⟩ i l) i (r (ix3 0 l ⟨(16 * t + n.val) * 16 + i.val, by omega⟩))
  choose I h8 hb hn using ag
  have H : HasIdx (half c hc (tileW (hMat g) (xTiles x t ht))) (half c hc (tileR (pMat (F := Ideal)) (rTiles r t ht)))
      (chunkDec (half c hc (tileW (hMat g) (xTiles x t ht))) (entry (tsRow (F := Ideal) a)) (entry (rkRow (F := Ideal) a)))
      (chunkInv (chunkDec (half c hc (tileW (hMat g) (xTiles x t ht))) (entry (tsRow (F := Ideal) a)) (entry (rkRow (F := Ideal) a)))) l' I := by
    intro i n
    refine ⟨h8 i n, ?_⟩
    rw [chunkInv_apply, ed, ew, er]
    exact hb i n
  rw [storedCodes_apply _ _ _ _ _ I H]
  have key : ∀ (i n : Fin 16) (n' : Fin 128) (i' : Fin 16), i.val = i'.val → 16 * t + n.val = n'.val →
      nibOf (I i n) (half c hc (tileW (hMat g) (xTiles x t ht)) (ix3 i n l') < 0) = nibB g x r a l n' i' := by
    intro i n n' i' hi hn'
    obtain rfl : i = i' := Fin.ext hi
    obtain ⟨n', hlt⟩ := n'
    simp only at hn'
    subst hn'
    simp only [ew]
    exact hn i n
  unfold pairOf
  rw [key _ _ ⟨p.val / 8, by omega⟩ ⟨p.val % 8 * 2, by omega⟩ (by simp only; omega) (by simp only; omega),
    key _ _ ⟨p.val / 8, by omega⟩ ⟨p.val % 8 * 2 + 1, by omega⟩ (by simp only; omega) (by simp only; omega)]

/-- The block of codes at an index. -/
theorem codes_block (g : Vec Ideal S1x256 .f32) (x : Vec Ideal S1x2048x256 .bf16) (r : Vec Ideal S1x256x2048 .i8) (a : Elt Ideal .f32) (ha : (a : EReal) < ⊤)
    (l : Fin 256) (p : Fin 1024) :
    View.canon (codesPieces (hMat g) (pMat (F := Ideal)) (xTiles x) (rTiles r) (tsRow (F := Ideal) a) (rkRow (F := Ideal) a)) (ix3 0 l p)
      = nibB g x r a l ⟨p.val / 8, by omega⟩ ⟨p.val % 8 * 2, by omega⟩ ||| (nibB g x r a l ⟨p.val / 8, by omega⟩ ⟨p.val % 8 * 2 + 1, by omega⟩ <<< 4) := by
  unfold codesPieces codesPiece
  canon_tiles z h
  all_goals
    have h1' : l.val = _ := h1
    have h2' : p.val = _ := h2
    refine codes_piece g x r a ha _ _ _ _ l p z ?_ ?_ <;> omega

end Cert.KernelIdeal.Live

end
-- ==== Proof.Live.Arrays.lean ====
/- The four result arrays the kernel leaves, as functions of the arguments. -/
module

public import proofs.«01_k».proof.Proof.Live.Block
public import proofs.«01_k».proof.Proof.Live.Pieces
public import proofs.«01_k».proof.Proof.Live.Frame
public import Idealize.ShloMosaic.Lib.Claim
public import Idealize.ShloMosaic.Lib.Pipeline.ValueKit

@[expose] public section

set_option maxRecDepth 16384

noncomputable section

namespace Cert.KernelIdeal.Live

open Idealize.ShloMosaic Idealize.ShloMosaic.Tactic Idealize.ShloMosaic.Pointwise Idealize.ShloMosaic.TcCoe Idealize.SL.Sem
open Cert.KernelIdeal.Gen Cert.Quant
open scoped BigOperators

variable (m : (ℓ : Loc nD τ sig) → Buf (Elt Ideal) ℓ)

/-- The argument x, coordinate by coordinate. -/
def argX (c : Dev nD) (b : Fin 4) (t : Fin 6144) (ch : Fin 4096) : EReal :=
  (m ((c : Thread nD τ).loc main_arg0) : Vec Ideal S4x6144x4096 .bf16) (ix3 b t ch)
/-- The argument of sixteen signs. -/
def argG (c : Dev nD) (j : Fin 16) : EReal := (m ((c : Thread nD τ).loc main_arg1) : Vec Ideal S16 .f32) (ix1 j)
/-- The argument of random bytes. -/
def argR (c : Dev nD) (b : Fin 4) (ch : Fin 4096) (t : Fin 6144) : BitVec 8 :=
  (m ((c : Thread nD τ).loc main_arg2) : Vec Ideal S4x4096x6144 .i8) (ix3 b ch t)
/-- The argument of the earlier maximum. -/
def argA (c : Dev nD) : EReal := (m ((c : Thread nD τ).loc main_arg3) : Vec Ideal S_ .f32) ix0

/-- The block indices of the windows that move with the grid, at every point. -/
theorem idx_all : ∀ t : Fin cfg0.N,
    win0_2.index t = ![t.val / 48, t.val % 3, t.val / 3 % 16]
    ∧ win0_3.index t = ![t.val / 48, t.val / 3 % 16, t.val % 3]
    ∧ win0_4.index t = ![t.val / 48, t.val / 3 % 16, t.val % 3]
    ∧ win0_5.index t = ![t.val / 48, t.val / 3 % 16, t.val % 3]
    ∧ win0_6.index t = ![t.val / 48, t.val / 3 % 16, t.val % 3] :=
  (by decide +kernel : ∀ t : Fin grid0.N, _)

/-- The block indices of the windows that stay, at every point. -/
theorem idx_fix : ∀ t : Fin cfg0.N, win0_0.index t = ![0, 0] ∧ win0_1.index t = ![0, 0] ∧ win0_7.index t = ![0, 0] :=
  (by decide +kernel : ∀ t : Fin grid0.N, _)

/-- The grid has 192 points. -/
theorem lt_N (t : Fin cfg0.N) : t.val < 192 := lt_of_lt_of_eq t.isLt N_0

/-- The block of x at a point, read in the argument. -/
theorem x_read (c : Dev nD) (t : Fin cfg0.N) (k : Fin 2048) (l : Fin 256) :
    (iblk m c 2 t : Vec Ideal S1x2048x256 .bf16) (ix3 0 k l)
      = argX m c ⟨t.val / 48, by have := lt_N t; omega⟩ ⟨2048 * (t.val % 3) + k.val, by omega⟩ ⟨256 * (t.val / 3 % 16) + l.val, by omega⟩ := by
  unfold argX
  obtain ⟨e, -⟩ := idx_all t
  blk_ext [iblk, V, e]

/-- The block of random bytes at a point, read in the argument. -/
theorem r_read (c : Dev nD) (t : Fin cfg0.N) (l : Fin 256) (k : Fin 2048) :
    (iblk m c 3 t : Vec Ideal S1x256x2048 .i8) (ix3 0 l k)
      = argR m c ⟨t.val / 48, by have := lt_N t; omega⟩ ⟨256 * (t.val / 3 % 16) + l.val, by omega⟩ ⟨2048 * (t.val % 3) + k.val, by omega⟩ := by
  unfold argR
  obtain ⟨-, e, -⟩ := idx_all t
  blk_ext [iblk, V, e]

/-- The tiled signs, read in the argument. -/
theorem g_read (c : Dev nD) (t : Fin cfg0.N) (k : Fin 256) :
    (iblk m c 1 t : Vec Ideal S1x256 .f32) (ix2 0 k) = argG m c ⟨k.val % 16, by omega⟩ := by
  unfold argG
  obtain ⟨-, e, -⟩ := idx_fix t
  have h : (iblk m c 1 t : Vec Ideal S1x256 .f32) (ix2 0 k) = (V m c main_v3 : Vec Ideal S1x256 .f32) (ix2 0 k) := by
    blk_ext [iblk, e]
  rw [h]
  entry_read
  pointwise

/-- The earlier maximum, read in the argument. -/
theorem a_read (c : Dev nD) (t : Fin cfg0.N) : apOf (iblk m c 0 t) = argA m c := by
  unfold argA apOf
  obtain ⟨e, -⟩ := idx_fix t
  have h : (iblk m c 0 t : Vec Ideal S1x1 .f32) (Shape.Idx.first one_pos) = (V m c main_v4 : Vec Ideal S1x1 .f32) (ix2 0 0) := by
    blk_ext [iblk, e]
  rw [h]
  entry_read
  pointwise

/-- A block's transformed weight is the array's. -/
theorem wB_eq (c : Dev nD) (t : Fin cfg0.N) (n : Fin 128) (i : Fin 16) (l : Fin 256) :
    wB (iblk m c 1 t0) (iblk m c 2 t) n i l
      = wt (argX m c) (argG m c) ⟨t.val / 48, by have := lt_N t; omega⟩ ⟨256 * (t.val / 3 % 16) + l.val, by omega⟩
          ⟨128 * (t.val % 3) + n.val, by omega⟩ i := by
  unfold wB wt
  refine Finset.sum_congr rfl fun j _ => ?_
  rw [x_read m c t, g_read m c t0]
  have e1 : (⟨(n.val % 16 * 16 + j.val) % 16, by omega⟩ : Fin 16) = j := by ext; show (n.val % 16 * 16 + j.val) % 16 = j.val; omega
  have e2 : (⟨2048 * (t.val % 3) + (n.val * 16 + j.val), by omega⟩ : Fin 6144) = ⟨(128 * (t.val % 3) + n.val) * 16 + j.val, by omega⟩ := by
    ext; show 2048 * (t.val % 3) + (n.val * 16 + j.val) = (128 * (t.val % 3) + n.val) * 16 + j.val; omega
  rw [e1, e2]

/-- An index of a block of an output, by its coordinates. -/
theorem idx_half128 (y : S1x256x128.Idx) : ∃ (l : Fin 256) (q : Fin 128), y = ix3 0 l q := by
  refine ⟨y 1, y 2, ?_⟩
  funext a
  match a with
  | ⟨0, _⟩ => exact Subsingleton.elim (α := Fin 1) _ _
  | ⟨1, _⟩ => rfl
  | ⟨2, _⟩ => rfl

/-- An index of a block of codes, by its coordinates. -/
theorem idx_half1024 (y : S1x256x1024.Idx) : ∃ (l : Fin 256) (p : Fin 1024), y = ix3 0 l p := by
  refine ⟨y 1, y 2, ?_⟩
  funext a
  match a with
  | ⟨0, _⟩ => exact Subsingleton.elim (α := Fin 1) _ _
  | ⟨1, _⟩ => rfl
  | ⟨2, _⟩ => rfl

/-- The block maxima of a point are the array's. -/
theorem amax_at (c : Dev nD) (t : Fin cfg0.N) (l : Fin 256) (q : Fin 128) :
    (amaxOf fun i => wB (iblk m c 1 t0) (iblk m c 2 t) q i l)
      = resAmax (argX m c) (argG m c) ⟨t.val / 48, by have := lt_N t; omega⟩ ⟨256 * (t.val / 3 % 16) + l.val, by omega⟩
          ⟨128 * (t.val % 3) + q.val, by omega⟩ := by
  unfold resAmax
  simp only [wB_eq m c t]

/-- The block maxima the kernel leaves. -/
theorem arr4 (c : Dev nD) : ((dats m 0 c).arrAt 4 cfg0.N : Vec Ideal S4x4096x384 .f32)
    = fun i => resAmax (argX m c) (argG m c) (i 0) (i 1) (i 2) := by
  refine (dats m 0 c).arrAt_eq_of_covers 4 _ (by decide +kernel) fun t hf y => ?_
  obtain ⟨-, -, e, -⟩ := idx_all t
  blk_simp
  rw [after0_4, at4_eq]
  obtain ⟨l, q, rfl⟩ := idx_half128 y
  refine (amax_block _ _ l q).trans ((amax_at m c t l q).trans ?_)
  congr 1 <;> (apply Fin.ext; blk_simp [e]; pointwise; try omega)

/-- The block scales the kernel leaves. -/
theorem arr6 (c : Dev nD) : ((dats m 0 c).arrAt 6 cfg0.N : Vec Ideal S4x4096x384 .fp8e4m3)
    = fun i => resSb (argX m c) (argG m c) (argA m c) (i 0) (i 1) (i 2) := by
  refine (dats m 0 c).arrAt_eq_of_covers 6 _ (by decide +kernel) fun t hf y => ?_
  obtain ⟨-, -, -, -, e⟩ := idx_all t
  blk_simp
  rw [after0_6, at6_eq, a_read]
  obtain ⟨l, q, rfl⟩ := idx_half128 y
  refine (sb_block _ _ _ l q).trans ?_
  rw [amax_at m c t l q]
  unfold resSb
  congr 2 <;> (apply Fin.ext; blk_simp [e]; pointwise; try omega)

/-- The tensor scale the kernel leaves. -/
theorem arr7 (c : Dev nD) : ((dats m 0 c).arrAt 7 cfg0.N : Vec Ideal S1x1 .f32) = fun _ => tsOf (argA m c) := by
  refine (dats m 0 c).arrAt_eq_of_covers 7 _ (by decide +kernel) fun t hf y => ?_
  blk_simp
  rw [after0_7, T7_eq, a_read]
  have e : (y : S1x1.Idx) = ix2 0 0 := by
    funext a
    match a with
    | ⟨0, _⟩ => exact Subsingleton.elim (α := Fin 1) _ _
    | ⟨1, _⟩ => exact Subsingleton.elim (α := Fin 1) _ _
  rw [e]
  exact tsOne_apply _

/-- The code of one weight of a point is the array's. -/
theorem nib_at (c : Dev nD) (t : Fin cfg0.N) (l : Fin 256) (n : Fin 128) (i : Fin 16) :
    nibB (iblk m c 1 t0) (iblk m c 2 t) (iblk m c 3 t) (argA m c) l n i
      = resNib (argX m c) (argG m c) (argR m c) (argA m c) ⟨t.val / 48, by have := lt_N t; omega⟩ ⟨256 * (t.val / 3 % 16) + l.val, by omega⟩
          ⟨128 * (t.val % 3) + n.val, by omega⟩ i := by
  unfold nibB resNib resSb
  rw [amax_at m c t l n, wB_eq m c t, r_read m c t]
  have e2 : (⟨2048 * (t.val % 3) + (n.val * 16 + i.val), by omega⟩ : Fin 6144) = ⟨(128 * (t.val % 3) + n.val) * 16 + i.val, by omega⟩ := by
    ext; show 2048 * (t.val % 3) + (n.val * 16 + i.val) = (128 * (t.val % 3) + n.val) * 16 + i.val; omega
  rw [e2]

/-- The codes of a point are the array's. -/
theorem code_at (c : Dev nD) (t : Fin cfg0.N) (l : Fin 256) (p : Fin 1024) :
    (nibB (iblk m c 1 t0) (iblk m c 2 t) (iblk m c 3 t) (argA m c) l ⟨p.val / 8, by omega⟩ ⟨p.val % 8 * 2, by omega⟩
      ||| (nibB (iblk m c 1 t0) (iblk m c 2 t) (iblk m c 3 t) (argA m c) l ⟨p.val / 8, by omega⟩ ⟨p.val % 8 * 2 + 1, by omega⟩ <<< 4))
      = resCode (argX m c) (argG m c) (argR m c) (argA m c) ⟨t.val / 48, by have := lt_N t; omega⟩ ⟨256 * (t.val / 3 % 16) + l.val, by omega⟩
          ⟨1024 * (t.val % 3) + p.val, by omega⟩ := by
  rw [nib_at m c t, nib_at m c t]
  unfold resCode
  have e1 : (⟨(1024 * (t.val % 3) + p.val) / 8, by omega⟩ : Fin 384) = ⟨128 * (t.val % 3) + p.val / 8, by omega⟩ := by
    ext; show (1024 * (t.val % 3) + p.val) / 8 = 128 * (t.val % 3) + p.val / 8; omega
  have e2 : (⟨(1024 * (t.val % 3) + p.val) % 8 * 2, by omega⟩ : Fin 16) = ⟨p.val % 8 * 2, by omega⟩ := by
    ext; show (1024 * (t.val % 3) + p.val) % 8 * 2 = p.val % 8 * 2; omega
  have e3 : (⟨(1024 * (t.val % 3) + p.val) % 8 * 2 + 1, by omega⟩ : Fin 16) = ⟨p.val % 8 * 2 + 1, by omega⟩ := by
    ext; show (1024 * (t.val % 3) + p.val) % 8 * 2 + 1 = p.val % 8 * 2 + 1; omega
  rw [e1, e2, e3]

/-- The codes the kernel leaves, where the earlier maximum is not infinite. -/
theorem arr5 (c : Dev nD) (ha : argA m c < ⊤) : ((dats m 0 c).arrAt 5 cfg0.N : Vec Ideal S4x4096x3072 .i8)
    = fun i => resCode (argX m c) (argG m c) (argR m c) (argA m c) (i 0) (i 1) (i 2) := by
  refine (dats m 0 c).arrAt_eq_of_covers 5 _ (by decide +kernel) fun t hf y => ?_
  obtain ⟨-, -, -, e, -⟩ := idx_all t
  blk_simp
  rw [after0_5, at5_eq, a_read]
  obtain ⟨l, p, rfl⟩ := idx_half1024 y
  refine (codes_block _ _ _ _ ha l p).trans ((code_at m c t l p).trans ?_)
  congr 1 <;> (apply Fin.ext; blk_simp [e]; pointwise; try omega)

/-- A run of the kernel: the four results as functions of the arguments, and the arguments unchanged. -/
theorem run_arrays (g : Dev nD → PrngReg) (ha : ∀ c, argA m c < ⊤) :
    θ_run (defs (F := Ideal)) (onTc (τ := τ) (main (F := Ideal))) ⟨m, fun _ => 0, g⟩ (fun r => ∀ c : Dev nD,
      r.2.mem ((c.tc : Thread nD τ).loc main_v5_0) = (fun i => resAmax (argX m c) (argG m c) (i 0) (i 1) (i 2) : Vec Ideal S4x4096x384 .f32)
      ∧ r.2.mem ((c.tc : Thread nD τ).loc main_v5_1) = (fun i => resCode (argX m c) (argG m c) (argR m c) (argA m c) (i 0) (i 1) (i 2) : Vec Ideal S4x4096x3072 .i8)
      ∧ r.2.mem ((c.tc : Thread nD τ).loc main_v5_2) = (fun i => resSb (argX m c) (argG m c) (argA m c) (i 0) (i 1) (i 2) : Vec Ideal S4x4096x384 .fp8e4m3)
      ∧ r.2.mem ((c.tc : Thread nD τ).loc main_v5_3) = (fun _ => tsOf (argA m c) : Vec Ideal S1x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h.1 c).1 4).trans (arr4 m c), ((h.1 c).1 5).trans (arr5 m c (ha c)), ((h.1 c).1 6).trans (arr6 m c), ((h.1 c).1 7).trans (arr7 m c), h.2 c⟩) (θ_run_and (run_main m g) (unchanged m g))

end Cert.KernelIdeal.Live

end
-- ==== Proof.Bits.Runs.lean ====
/- What the runs of the kernel share: the branch condition in closed form over the grid points, the
   staging and scratch memrefs by name, and the scratch as memrefs. -/
module

public import proofs.«01_k».proof.Proof.Gen.Kernel.Frame
public import proofs.«01_k».proof.Proof.Gen.Kernel.Skeleton

@[expose] public section

set_option maxRecDepth 16384

noncomputable section

namespace Cert.Kernel.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only — by arithmetic of the point. -/
theorem hcond0_0 : ∀ t : Fin cfg0.N, cond0_0 (grid0.coords t) ↔ t.val % 192 = 0 :=
  (fun t => by
    have ht : t.val < 192 := Nat.lt_of_lt_of_eq t.isLt N_0
    have e0 : (grid0.coords t 0).val = t.val / 48 % 4 := Pipeline.Grid.coords_val t 0 (by decide) rfl
    have e1 : (grid0.coords t 1).val = t.val / 3 % 16 := Pipeline.Grid.coords_val t 1 (by decide) rfl
    have e2 : (grid0.coords t 2).val = t.val / 1 % 3 := Pipeline.Grid.coords_val t 2 (by decide) rfl
    simp only [cond0_0, e0, e1, e2]
    word_cmp
   : ∀ t : Fin grid0.N, cond0_0 (grid0.coords t) ↔ t.val % 192 = 0)

/-! ## The kernel body on any staging memrefs: a subtype the run finds -/

/-- One staging buffer of output window 4, through which its contents are stated (`View.read_writes_of_cover`: the
    choice does not matter). -/
abbrev VO0_4 : View sig .tc .vmem S1x256x128 .f32 := (Memref.whole cc0_stg4_0 : Memref sig .tc .vmem S1x256x128 .f32).view
/-- One staging buffer of output window 5, through which its contents are stated (`View.read_writes_of_cover`: the
    choice does not matter). -/
abbrev VO0_5 : View sig .tc .vmem S1x256x1024 .i8 := (Memref.whole cc0_stg5_0 : Memref sig .tc .vmem S1x256x1024 .i8).view
/-- One staging buffer of output window 6, through which its contents are stated (`View.read_writes_of_cover`: the
    choice does not matter). -/
abbrev VO0_6 : View sig .tc .vmem S1x256x128 .fp8e4m3 := (Memref.whole cc0_stg6_0 : Memref sig .tc .vmem S1x256x128 .fp8e4m3).view
/-- One staging buffer of output window 7, through which its contents are stated (`View.read_writes_of_cover`: the
    choice does not matter). -/
abbrev VO0_7 : View sig .tc .vmem S1x1 .f32 := (Memref.whole cc0_stg7_0 : Memref sig .tc .vmem S1x1 .f32).view
/-- Each window's current staging memref at point `t`, spelled as the pipeline passes it (`bodyAt0`), and its wholeness. -/
abbrev ms0_0 (t : Fin cfg0.N) : Memref sig .tc .smem S1x1 .f32 := win0_0.stage (cfg0.slots t 0)
/-- Window 0's current buffer is whole. -/
abbrev hs0_0 (t : Fin cfg0.N) : (ms0_0 t).IsWhole := hstage0_0 ((cfg0.slots t 0).cast nbuf0_0)
/-- Window 1's current buffer at point `t`. -/
abbrev ms0_1 (t : Fin cfg0.N) : Memref sig .tc .vmem S1x256 .f32 := win0_1.stage (cfg0.slots t 1)
/-- Window 1's current buffer is whole. -/
abbrev hs0_1 (t : Fin cfg0.N) : (ms0_1 t).IsWhole := hstage0_1 ((cfg0.slots t 1).cast nbuf0_1)
/-- Window 2's current buffer at point `t`. -/
abbrev ms0_2 (t : Fin cfg0.N) : Memref sig .tc .vmem S1x2048x256 .bf16 := win0_2.stage (cfg0.slots t 2)
/-- Window 2's current buffer is whole. -/
abbrev hs0_2 (t : Fin cfg0.N) : (ms0_2 t).IsWhole := hstage0_2 ((cfg0.slots t 2).cast nbuf0_2)
/-- Window 3's current buffer at point `t`. -/
abbrev ms0_3 (t : Fin cfg0.N) : Memref sig .tc .vmem S1x256x2048 .i8 := win0_3.stage (cfg0.slots t 3)
/-- Window 3's current buffer is whole. -/
abbrev hs0_3 (t : Fin cfg0.N) : (ms0_3 t).IsWhole := hstage0_3 ((cfg0.slots t 3).cast nbuf0_3)
/-- Window 4's current buffer at point `t`. -/
abbrev ms0_4 (t : Fin cfg0.N) : Memref sig .tc .vmem S1x256x128 .f32 := win0_4.stage (cfg0.slots t 4)
/-- Window 4's current buffer is whole. -/
abbrev hs0_4 (t : Fin cfg0.N) : (ms0_4 t).IsWhole := hstage0_4 ((cfg0.slots t 4).cast nbuf0_4)
/-- Window 5's current buffer at point `t`. -/
abbrev ms0_5 (t : Fin cfg0.N) : Memref sig .tc .vmem S1x256x1024 .i8 := win0_5.stage (cfg0.slots t 5)
/-- Window 5's current buffer is whole. -/
abbrev hs0_5 (t : Fin cfg0.N) : (ms0_5 t).IsWhole := hstage0_5 ((cfg0.slots t 5).cast nbuf0_5)
/-- Window 6's current buffer at point `t`. -/
abbrev ms0_6 (t : Fin cfg0.N) : Memref sig .tc .vmem S1x256x128 .fp8e4m3 := win0_6.stage (cfg0.slots t 6)
/-- Window 6's current buffer is whole. -/
abbrev hs0_6 (t : Fin cfg0.N) : (ms0_6 t).IsWhole := hstage0_6 ((cfg0.slots t 6).cast nbuf0_6)
/-- Window 7's current buffer at point `t`. -/
abbrev ms0_7 (t : Fin cfg0.N) : Memref sig .tc .vmem S1x1 .f32 := win0_7.stage (cfg0.slots t 7)
/-- Window 7's current buffer is whole. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S256x256 .bf16 := Memref.whole cc0_scratch0
/-- Scratch 1, whole. -/
abbrev scM0_1 : Memref sig .tc .vmem S256x256 .bf16 := Memref.whole cc0_scratch1
/-- Scratch 2, whole. -/
abbrev scM0_2 : Memref sig .tc .vmem S2x8x128 .f32 := Memref.whole cc0_scratch2
/-- The scratch `arg11` the kernel carries between points, as a view: what it holds is stated through it. -/
abbrev VS0_0 : View sig .tc .vmem S256x256 .bf16 := scM0_0.view
/-- The scratch `arg12` the kernel carries between points, as a view: what it holds is stated through it. -/
abbrev VS0_1 : View sig .tc .vmem S256x256 .bf16 := scM0_1.view
/-- The scratch `arg13` the kernel carries between points, as a view: what it holds is stated through it. -/
abbrev VS0_2 : View sig .tc .vmem S2x8x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Live

end
-- ==== Proof.Bits.RunA.lean ====
/- The body's run at the grid's first point, where the scratch is filled: what each buffer ends with, as pieces. -/
module

public import proofs.«01_k».proof.Proof.Bits.Runs

@[expose] public section

set_option maxRecDepth 16384

noncomputable section

namespace Cert.Kernel.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 2856000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) :
    Σ' (L4 : List (View.Piece (Elt F) S1x256x128 .f32)), Σ' (L5 : List (View.Piece (Elt F) S1x256x1024 .i8)), Σ' (L6 : List (View.Piece (Elt F) S1x256x128 .fp8e4m3)), Σ' (L7 : List (View.Piece (Elt F) S1x1 .f32)), Σ' (LS0 : List (View.Piece (Elt F) S256x256 .bf16)), Σ' (LS1 : List (View.Piece (Elt F) S256x256 .bf16)), { LS2 : List (View.Piece (Elt F) S2x8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0_nvfp4_rht_sr i arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_nvfp4_rht_sr_eq_skeleton]; unfold cc0_nvfp4_rht_sr_skel
    simp only [k0_part267_eq_skeleton, k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part268_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part269_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part270_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part271_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    isplitl [HS1]; · iexists _; iexact HS1
    iexists _; iexact HS2

end Cert.Kernel.Live

end
-- ==== Proof.Bits.RunB.lean ====
/- The body's run at a point after the first: what each buffer ends with, as pieces. -/
module

public import proofs.«01_k».proof.Proof.Bits.RunA

@[expose] public section

set_option maxRecDepth 16384

noncomputable section

namespace Cert.Kernel.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 2756000 in
/-- What the body's stores leave in each output's staging memref, as pieces (last first), at a point after the first:
    on whole memrefs, the inputs' at their contents and the scratch at what the first point left, the body runs to the
    continuation with inputs and scratch as they were and each output's pieces written. The tensor scale's block is not touched. -/
noncomputable def kernelRun0_B (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) :
    Σ' (L4 : List (View.Piece (Elt F) S1x256x128 .f32)), Σ' (L5 : List (View.Piece (Elt F) S1x256x1024 .i8)), { L6 : List (View.Piece (Elt F) S1x256x128 .fp8e4m3) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg11 fullShare xs0 ∗ owns (c : Thread nD τ) arg12 fullShare xs1 ∗ owns (c : Thread nD τ) arg13 fullShare xs2) -∗ K ⟨⟩))
          ⊢ wp frame (wpE (defs₀ (F := F)) Variants.none c none) E (cc0_nvfp4_rht_sr i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_nvfp4_rht_sr_eq_skeleton]; unfold cc0_nvfp4_rht_sr_skel
    simp only [k0_part267_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part268_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part269_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part270_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part271_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg11.eq_unread hfs0; obtain rfl := harg12.eq_unread hfs1; obtain rfl := harg13.eq_unread hfs2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]
    · iexists _; isplitr; · ipureintro; exact harg11.read_unread _
      iexact HS0
    isplitl [HS1]
    · iexists _; isplitr; · ipureintro; exact harg12.read_unread _
      iexact HS1
    iexists _; isplitr; · ipureintro; exact harg13.read_unread _
    iexact HS2

end Cert.Kernel.Live

end
-- ==== Proof.Bits.Frame.lean ====
/- The kernel's run with its outputs named: what each staging buffer and the scratch hold after every point,
   the body's obligation, the run, and the frame. -/
module

public import proofs.«01_k».proof.Proof.Bits.RunB
public import Idealize.ShloMosaic.Lib.Claim

@[expose] public section

set_option maxRecDepth 16384

noncomputable section

namespace Cert.Kernel.Live

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- Case A's pieces for output 4 tile its block (2 stores of `S1x128x128`, checked by the kernel's evaluation: Lib/Ring.lean `Piece.tiledL`, linear in the pieces, through a loop's `@[irreducible]` trip theorem too), so they cover it. -/
theorem cover0_A_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x256x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).1 S1x128x128.size (by sl_kernel_rfl) y

/-- What case A leaves in output 4's staging buffer: its pieces read back over junk. -/
def out0_A_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x256x128 .f32 :=
  VO0_4.read (Elt F) (VO0_4.writes (Elt F) VO0_4.junk (kernelRun0_A c i arg3 harg3 arg4 harg4 arg5 harg5 arg6 harg6 arg7 harg7 arg8 harg8 arg9 harg9 arg10 harg10 arg11 harg11 arg12 harg12 arg13 harg13 hc0 x0 x1 x2 x3).1)

/-- Case A's pieces for output 5 tile its block (16 stores of `S1x128x128`, checked by the kernel's evaluation: Lib/Ring.lean `Piece.tiledL`, linear in the pieces, through a loop's `@[irreducible]` trip theorem too), so they cover it. -/
theorem cover0_A_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x256x1024.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.1 S1x128x128.size (by sl_kernel_rfl) y

/-- What case A leaves in output 5's staging buffer: its pieces read back over junk. -/
def out0_A_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x256x1024 .i8 :=
  VO0_5.read (Elt F) (VO0_5.writes (Elt F) VO0_5.junk (kernelRun0_A c i arg3 harg3 arg4 harg4 arg5 harg5 arg6 harg6 arg7 harg7 arg8 harg8 arg9 harg9 arg10 harg10 arg11 harg11 arg12 harg12 arg13 harg13 hc0 x0 x1 x2 x3).2.1)

/-- Case A's pieces for output 6 tile its block (2 stores of `S1x128x128`, checked by the kernel's evaluation: Lib/Ring.lean `Piece.tiledL`, linear in the pieces, through a loop's `@[irreducible]` trip theorem too), so they cover it. -/
theorem cover0_A_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x256x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.1 S1x128x128.size (by sl_kernel_rfl) y

/-- What case A leaves in output 6's staging buffer: its pieces read back over junk. -/
def out0_A_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x256x128 .fp8e4m3 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 arg13 harg13 hc0 x0 x1 x2 x3).2.2.1)

/-- Case A's pieces for output 7 tile its block (2 stores of `S1x1`, checked by the kernel's evaluation: Lib/Ring.lean `Piece.tiledL`, linear in the pieces, through a loop's `@[irreducible]` trip theorem too), so they cover it. -/
theorem cover0_A_7 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S1x1.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.1 S1x1.size (by sl_kernel_rfl) y

/-- What case A leaves in output 7's staging buffer: its pieces read back over junk. -/
def out0_A_7 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S1x1 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 hc0 x0 x1 x2 x3).2.2.2.1)

/-- Case A's pieces for scratch `arg11`, which the kernel carries between points, cover it: 1 piece of `S256x256` tiling it (Lib/Ring.lean `Piece.tiledL`). -/
theorem scover0_A_0 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.2.1 S256x256.size (by sl_kernel_rfl) y

/-- What case A leaves in scratch `arg11`: its pieces read back over junk. -/
def sout0_A_0 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S256x256 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 x0 x1 x2 x3).2.2.2.2.1)

/-- Case A's pieces for scratch `arg12`, which the kernel carries between points, cover it: 1 piece of `S256x256` tiling it (Lib/Ring.lean `Piece.tiledL`). -/
theorem scover0_A_1 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S256x256.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1 S256x256.size (by sl_kernel_rfl) y

/-- What case A leaves in scratch `arg12`: its pieces read back over junk. -/
def sout0_A_1 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S256x256 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.1)

/-- Case A's pieces for scratch `arg13`, which the kernel carries between points, cover it: 2 pieces of `S1x8x128` tiling it (Lib/Ring.lean `Piece.tiledL`). -/
theorem scover0_A_2 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) (y : S2x8x128.Idx) :
    ∃ pc ∈ (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1 S1x8x128.size (by sl_kernel_rfl) y

/-- What case A leaves in scratch `arg13`: its pieces read back over junk. -/
def sout0_A_2 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : cond0_0 i)
    (x0 : Vec F S1x1 .f32) (x1 : Vec F S1x256 .f32) (x2 : Vec F S1x2048x256 .bf16) (x3 : Vec F S1x256x2048 .i8) : Vec F S2x8x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 arg13 harg13 hc0 x0 x1 x2 x3).2.2.2.2.2.2.1)

/-- Case B's pieces for output 4 tile its block (2 stores of `S1x128x128`, checked by the kernel's evaluation: Lib/Ring.lean `Piece.tiledL`, linear in the pieces, through a loop's `@[irreducible]` trip theorem too), so they cover it. -/
theorem cover0_B_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) (y : S1x256x128.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1 S1x128x128.size (by sl_kernel_rfl) y

/-- What case B leaves in output 4's staging buffer: its pieces read back over junk. -/
def out0_B_4 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) : Vec F S1x256x128 .f32 :=
  VO0_4.read (Elt F) (VO0_4.writes (Elt F) VO0_4.junk (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).1)

/-- Case B's pieces for output 5 tile its block (16 stores of `S1x128x128`, checked by the kernel's evaluation: Lib/Ring.lean `Piece.tiledL`, linear in the pieces, through a loop's `@[irreducible]` trip theorem too), so they cover it. -/
theorem cover0_B_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) (y : S1x256x1024.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1 S1x128x128.size (by sl_kernel_rfl) y

/-- What case B leaves in output 5's staging buffer: its pieces read back over junk. -/
def out0_B_5 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) : Vec F S1x256x1024 .i8 :=
  VO0_5.read (Elt F) (VO0_5.writes (Elt F) VO0_5.junk (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.1)

/-- Case B's pieces for output 6 tile its block (2 stores of `S1x128x128`, checked by the kernel's evaluation: Lib/Ring.lean `Piece.tiledL`, linear in the pieces, through a loop's `@[irreducible]` trip theorem too), so they cover it. -/
theorem cover0_B_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) (y : S1x256x128.Idx) :
    ∃ pc ∈ (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1 S1x128x128.size (by sl_kernel_rfl) y

/-- What case B leaves in output 6's staging buffer: its pieces read back over junk. -/
def out0_B_6 (c : Dev nD) (i : grid0.Coords) (arg3 : Memref sig .tc .smem S1x1 .f32) (harg3 : arg3.IsWhole) (arg4 : Memref sig .tc .vmem S1x256 .f32) (harg4 : arg4.IsWhole) (arg5 : Memref sig .tc .vmem S1x2048x256 .bf16) (harg5 : arg5.IsWhole) (arg6 : Memref sig .tc .vmem S1x256x2048 .i8) (harg6 : arg6.IsWhole) (arg7 : Memref sig .tc .vmem S1x256x128 .f32) (harg7 : arg7.IsWhole) (arg8 : Memref sig .tc .vmem S1x256x1024 .i8) (harg8 : arg8.IsWhole) (arg9 : Memref sig .tc .vmem S1x256x128 .fp8e4m3) (harg9 : arg9.IsWhole) (arg10 : Memref sig .tc .vmem S1x1 .f32) (harg10 : arg10.IsWhole) (arg11 : Memref sig .tc .vmem S256x256 .bf16) (harg11 : arg11.IsWhole) (arg12 : Memref sig .tc .vmem S256x256 .bf16) (harg12 : arg12.IsWhole) (arg13 : Memref sig .tc .vmem S2x8x128 .f32) (harg13 : arg13.IsWhole) (hc0 : ¬cond0_0 i)
    (x0 : Vec F S1x1 .f32) (x1 : Vec F S1x256 .f32) (x2 : Vec F S1x2048x256 .bf16) (x3 : Vec F S1x256x2048 .i8) (xs0 : Vec F S256x256 .bf16) (xs1 : Vec F S256x256 .bf16) (xs2 : Vec F S2x8x128 .f32) : Vec F S1x256x128 .fp8e4m3 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 arg13 harg13 hc0 x0 x1 x2 x3 xs0 xs1 xs2).2.2.1)

variable (m : (ℓ : Loc nD τ sig) → Buf (Elt F) ℓ) (ρ : Dev nD → PrngReg)

/-! ## What the buffers hold after each point -/

/-- The grid's first point. -/
def t0 : Fin cfg0.N := ⟨0, lt_of_lt_of_eq (by decide : 0 < 192) (show 192 = cfg0.N from N_0.symm)⟩

/-- The first point is a multiple of 192. -/
theorem t0_mod : t0.val % 192 = 0 := Nat.zero_mod 192

/-- What the first point leaves in the scratch `h_scr`, and the points after it find there. -/
def S0 (c : Dev nD) : Vec F S256x256 .bf16 :=
  sout0_A_0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)
/-- What the first point leaves in the scratch `p_scr`. -/
def S1 (c : Dev nD) : Vec F S256x256 .bf16 :=
  sout0_A_1 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)
/-- What the first point leaves in the scratch `c_scr`. -/
def S2 (c : Dev nD) : Vec F S2x8x128 .f32 :=
  sout0_A_2 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)
/-- What the first point leaves in the tensor scale's block. -/
def T7 (c : Dev nD) : Vec F S1x1 .f32 :=
  out0_A_7 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) (ms0_6 t0) (hs0_6 t0) (ms0_7 t0) (hs0_7 t0) scM0_0 (Memref.isWhole_whole _) scM0_1 (Memref.isWhole_whole _) scM0_2 (Memref.isWhole_whole _) ((hcond0_0 t0).mpr t0_mod) (iblk m c 0 t0) (iblk m c 1 t0) (iblk m c 2 t0) (iblk m c 3 t0)

/-- What the body leaves in the block maxima' block at point `t`. -/
def at4 (c : Dev nD) (t : Fin cfg0.N) : Vec F S1x256x128 .f32 :=
  if h : t.val % 192 = 0 then
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t)
  else
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c)
/-- The block maxima at the first point. -/
theorem at4_A (c : Dev nD) (t : Fin cfg0.N) (h : t.val % 192 = 0) : at4 m c t = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) := dif_pos h
/-- The block maxima at a later point. -/
theorem at4_B (c : Dev nD) (t : Fin cfg0.N) (h : ¬t.val % 192 = 0) : at4 m c t = out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c) := dif_neg h

/-- What the body leaves in the codes' block at point `t`. -/
def at5 (c : Dev nD) (t : Fin cfg0.N) : Vec F S1x256x1024 .i8 :=
  if h : t.val % 192 = 0 then
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t)
  else
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c)
/-- The codes at the first point. -/
theorem at5_A (c : Dev nD) (t : Fin cfg0.N) (h : t.val % 192 = 0) : at5 m c t = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) := dif_pos h
/-- The codes at a later point. -/
theorem at5_B (c : Dev nD) (t : Fin cfg0.N) (h : ¬t.val % 192 = 0) : at5 m c t = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c) := dif_neg h

/-- What the body leaves in the block scales' block at point `t`. -/
def at6 (c : Dev nD) (t : Fin cfg0.N) : Vec F S1x256x128 .fp8e4m3 :=
  if h : t.val % 192 = 0 then
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t)
  else
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c)
/-- The block scales at the first point. -/
theorem at6_A (c : Dev nD) (t : Fin cfg0.N) (h : t.val % 192 = 0) : at6 m c t = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h) (iblk m c 0 t) (iblk m c 1 t) (iblk m c 2 t) (iblk m c 3 t) := dif_pos h
/-- The block scales at a later point. -/
theorem at6_B (c : Dev nD) (t : Fin cfg0.N) (h : ¬t.val % 192 = 0) : at6 m c t = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun g => h ((hcond0_0 t).mp g)) (iblk m c 0 t) (iblk m c 1 t) (iblk m c 2 t) (iblk m c 3 t) (S0 m c) (S1 m c) (S2 m c) := dif_neg h

/-- The region's invariant before position `n`: before the first point the scratch is at anything, afterwards at what the
    first point left. -/
def PhiS (c : Dev nD) : ℕ → sProp 𝕄
  | 0 => Pipeline.ΦA spec0 c
  | _ + 1 => iprop(iprop(owns (c : Thread nD τ) scM0_0 fullShare (S0 m c) ∗ owns (c : Thread nD τ) scM0_1 fullShare (S1 m c) ∗ owns (c : Thread nD τ) scM0_2 fullShare (S2 m c)) ∗ (∃ r, prngReg c r))

/-- Before the first point the scratch is at anything. -/
theorem PhiS_zero (c : Dev nD) (n : ℕ) (hz : n = 0) : PhiS m c n = Pipeline.ΦA spec0 c := by
  subst hz; rfl

/-- After the first point the scratch is at what the first point left. -/
theorem PhiS_pos (c : Dev nD) (n : ℕ) (hz : n ≠ 0) :
    PhiS m c n = iprop(iprop(owns (c : Thread nD τ) scM0_0 fullShare (S0 m c) ∗ owns (c : Thread nD τ) scM0_1 fullShare (S1 m c) ∗ owns (c : Thread nD τ) scM0_2 fullShare (S2 m c)) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at `at4`, `at5`, `at6`, and the tensor scale's at what the first point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => at4 m c t
    | ⟨5, _⟩ => at5 m c t
    | ⟨6, _⟩ => at6 m c t
    | ⟨7, _⟩ => T7 m c
  Φ t := PhiS m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) : (dats m 0 c).Φ t.castSucc = PhiS m c t.val := by
  dsimp only [dats]; rfl

/-- What window 0's buffer holds after a point. -/
theorem after0_0 (c : Dev nD) (t : Fin cfg0.N) : (dats m 0 c).after 0 t = iblk m c 0 t := by dsimp only [dats]
/-- What window 1's buffer holds after a point. -/
theorem after0_1 (c : Dev nD) (t : Fin cfg0.N) : (dats m 0 c).after 1 t = iblk m c 1 t := by dsimp only [dats]
/-- What window 2's buffer holds after a point. -/
theorem after0_2 (c : Dev nD) (t : Fin cfg0.N) : (dats m 0 c).after 2 t = iblk m c 2 t := by dsimp only [dats]
/-- What window 3's buffer holds after a point. -/
theorem after0_3 (c : Dev nD) (t : Fin cfg0.N) : (dats m 0 c).after 3 t = iblk m c 3 t := by dsimp only [dats]
/-- What window 4's buffer holds after a point. -/
theorem after0_4 (c : Dev nD) (t : Fin cfg0.N) : (dats m 0 c).after 4 t = at4 m c t := by dsimp only [dats]
/-- What window 5's buffer holds after a point. -/
theorem after0_5 (c : Dev nD) (t : Fin cfg0.N) : (dats m 0 c).after 5 t = at5 m c t := by dsimp only [dats]
/-- What window 6's buffer holds after a point. -/
theorem after0_6 (c : Dev nD) (t : Fin cfg0.N) : (dats m 0 c).after 6 t = at6 m c t := by dsimp only [dats]
/-- What window 7's buffer holds after a point. -/
theorem after0_7 (c : Dev nD) (t : Fin cfg0.N) : (dats m 0 c).after 7 t = T7 m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
/-- Window 1's buffer holds its block before every point. -/
theorem before0_1 (c : Dev nD) (t : Fin cfg0.N) (d) : (dats m 0 c).before 1 t d = iblk m c 1 t :=
  before0_1_of m (dats m 0 c) (A_eq m c 1) (after0_1 m c) t d
/-- Window 2's buffer holds its block before every point. -/
theorem before0_2 (c : Dev nD) (t : Fin cfg0.N) (d) : (dats m 0 c).before 2 t d = iblk m c 2 t :=
  before0_2_of m (dats m 0 c) (A_eq m c 2) (after0_2 m c) t d
/-- Window 3's buffer holds its block before every point. -/
theorem before0_3 (c : Dev nD) (t : Fin cfg0.N) (d) : (dats m 0 c).before 3 t d = iblk m c 3 t :=
  before0_3_of m (dats m 0 c) (A_eq m c 3) (after0_3 m c) t d
/-- The first point stores the tensor scale's block; -/
theorem idle7_A (t : Fin cfg0.N) (h : t.val % 192 = 0) : cfg0.idle 7 (cfg0.grid.coords t) = false := by
  have hc : k0_cond1 (grid0.coords t) = 1#1 := (hcond0_0 t).mpr h
  show (!(k0_cond1 (grid0.coords t) == 1#1)) = false
  rw [hc]; rfl

/-- no other point does. -/
theorem idle7_B (t : Fin cfg0.N) (h : ¬t.val % 192 = 0) : cfg0.idle 7 (cfg0.grid.coords t) = true := by
  have hc : ¬k0_cond1 (grid0.coords t) = 1#1 := fun e => h ((hcond0_0 t).mp e)
  show (!(k0_cond1 (grid0.coords t) == 1#1)) = true
  rw [Bool.not_eq_true', beq_eq_false_iff_ne]; exact hc

/-- After the first point the tensor scale's staging buffer holds what the first point left. -/
theorem before0_7_B' (c : Dev nD) (d) : ∀ (n : ℕ) (hn : n + 1 < cfg0.N), (dats m 0 c).before 7 ⟨n + 1, hn⟩ d = T7 m c := by
  intro n
  induction n with
  | zero =>
    intro hn
    rw [Dat.before_of_pos _ 7 ⟨0 + 1, hn⟩ (Nat.succ_ne_zero _) ((cfg0.win 7).fetch_out rfl _),
      if_neg (fun h => by have := (flush0_7 _).mp h; dsimp only at this; omega)]
    unfold Dat.left
    rw [idle7_A _ (by dsimp only)]
    dsimp only [dats]
    rfl
  | succ n ih =>
    intro hn
    have hN : n + 1 + 1 < 192 := lt_of_lt_of_eq hn (show cfg0.N = 192 from N_0)
    rw [Dat.before_of_pos _ 7 ⟨n + 1 + 1, hn⟩ (Nat.succ_ne_zero _) ((cfg0.win 7).fetch_out rfl _),
      if_neg (fun h => by have := (flush0_7 _).mp h; dsimp only at this; omega)]
    unfold Dat.left
    rw [idle7_B _ (by dsimp only; omega)]
    exact ih _

/-- At a later point the tensor scale's staging buffer holds what the first point left. -/
theorem before0_7_B (c : Dev nD) (t : Fin cfg0.N) (h0 : ¬t.val % 192 = 0) (d) : (dats m 0 c).before 7 t d = T7 m c := by
  obtain ⟨n, hn⟩ := t
  obtain _ | n := n
  · exact absurd (Nat.zero_mod 192) h0
  · exact before0_7_B' m c d n hn

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) from rfl, PhiS_pos m c _ (Nat.succ_ne_zero _)]
  have hN : t.val < 192 := lt_of_lt_of_eq t.isLt (show cfg0.N = 192 from N_0)
  by_cases h0 : t.val % 192 = 0
  · by_cases hz : t.val = 0
    · obtain rfl : t = t0 := Fin.ext hz
      rw [PhiS_castSucc m c t0, PhiS_zero m c _ hz, PhiA0_eq]
      rw [at4_A m c t0 h0, at5_A m c t0 h0, at6_A m c t0 h0]
      unfold S0 S1 S2 T7 out0_A_4 out0_A_5 out0_A_6 out0_A_7 sout0_A_0 sout0_A_1 sout0_A_2; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t0) _ _ _ _ _ _ _ _ _ _ _ _ _ _ _ _ _ _ _ _ _ _ ((hcond0_0 t0).mpr h0) (iblk m c 0 t0) (iblk m c 1 t0) (iblk m c 2 t0) (iblk m c 3 t0)).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      isplitl [HS2]; · iexact HS2
      iintro ⟨H0, H1, H2, H3, ⟨%e4, H4⟩, ⟨%e5, H5⟩, ⟨%e6, H6⟩, ⟨%e7, H7⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _ _ _)
    · exfalso; have hN : t.val < 192 := lt_of_lt_of_eq t.isLt (show cfg0.N = 192 from N_0); omega
  · by_cases hz : t.val = 0
    · exfalso; have hN : t.val < 192 := lt_of_lt_of_eq t.isLt (show cfg0.N = 192 from N_0); omega
    · rw [PhiS_castSucc m c t, PhiS_pos m c _ hz]
      rw [at4_B m c t h0, at5_B m c t h0, at6_B m c t h0]
      simp only [before0_7_B m c t h0]
      unfold out0_B_4 out0_B_5 out0_B_6; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) _ _ _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, ⟨%e4, H4⟩, ⟨%e5, H5⟩, ⟨%e6, H6⟩, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _ _ _ _)
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The tensor scale's staging buffer holds after every point what the first left, which is what the obligation asks:
    after the first point and before the write-back, what the body found. -/
theorem leaves7 (c : Dev nD) (t : Fin cfg0.N) :
    (owns (c : Thread nD τ) (ms0_7 t) fullShare ((dats m 0 c).after 7 t) : sProp 𝕄) ⊢ (dats m 0 c).leavesExact 7 t := by
  unfold Dat.leavesExact
  by_cases h : t.val % 192 = 0
  · rw [idle7_A t h]
  · rw [idle7_B t h]
    cases hf : (cfg0.win 7).flush t
    · dsimp only
      iintro H
      iexists (T7 m c)
      rw [before0_7_B m c t h]
      iexact H
    · exact .rfl

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => sep_mono .rfl (sep_mono .rfl (sep_mono .rfl (sep_mono .rfl (sep_mono .rfl
    (sep_mono .rfl (sep_mono .rfl (sep_mono .rfl (sep_mono .rfl (leaves7 m c t)))))))))

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 192 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Live

end
-- ==== Proof.Ref.Point.lean ====
/- The reference's results at an index, over the extended reals. -/
module

public import proofs.«01_k».proof.Proof.Gen.ReferenceIdeal.Frame
public import proofs.«01_k».proof.Proof.Math.Pack

@[expose] public section

set_option maxRecDepth 16384

noncomputable section

namespace Cert.ReferenceIdeal.Point

open Idealize.ShloMosaic Idealize.ShloMosaic.Tactic Idealize.ShloMosaic.Pointwise
open Cert.ReferenceIdeal.Gen Cert.Quant
open scoped BigOperators

/-- The block maxima at an index. -/
theorem pay4_apply (w : Vec Ideal S4x4096x6144 .f32) (b : Fin 4) (c : Fin 4096) (n : Fin 384) :
    k0_pay4 w (ix3 b c n) = amaxOf fun i : Fin 16 => w (ix3 b c ⟨n.val * 16 + i.val, by omega⟩) := by
  pointwise [k0_pay4, k0_pay3, amaxOf]
  rw [negInf]
  rfl

/-- The tensor scale. -/
theorem pay2_apply (a : Vec Ideal S1x1 .f32) : k0_pay2 a (ix2 0 0) = tsOf (a (ix2 0 0)) := by
  pointwise [k0_pay2, tsOf]

/-- The block scales at an index. -/
theorem pay5_apply (w : Vec Ideal S4x4096x6144 .f32) (a : Vec Ideal S1x1 .f32) (b : Fin 4) (c : Fin 4096) (n : Fin 384) :
    k0_pay5 w a (ix3 b c n) = sbRef (k0_pay4 w (ix3 b c n)) (tsOf (a (ix2 0 0))) := by
  rw [← pay2_apply]
  pointwise [k0_pay5, sbRef]

/-- The clipped weights at an index. -/
theorem pay6_apply (w : Vec Ideal S4x4096x6144 .f32) (a : Vec Ideal S1x1 .f32) (b : Fin 4) (c : Fin 4096) (n : Fin 384) (i : Fin 16) :
    k0_pay6 w a (ix4 b c n i) = clipOf (w (ix3 b c ⟨n.val * 16 + i.val, by omega⟩)) (k0_pay5 w a (ix3 b c n) * k0_pay2 a (ix2 0 0)) := by
  pointwise [k0_pay6, k0_pay3, clipOf]

/-- Their magnitudes. -/
theorem pay7_apply (w : Vec Ideal S4x4096x6144 .f32) (a : Vec Ideal S1x1 .f32) (b : Fin 4) (c : Fin 4096) (n : Fin 384) (i : Fin 16) :
    k0_pay7 w a (ix4 b c n i) = max (k0_pay6 w a (ix4 b c n i)) (-(k0_pay6 w a (ix4 b c n i))) := by
  pointwise [k0_pay7]
  rfl

/-- The index bytes at an index. -/
theorem pay9_apply (w : Vec Ideal S4x4096x6144 .f32) (a : Vec Ideal S1x1 .f32)  (r : Vec Ideal S4x4096x6144 .i8) (b : Fin 4) (c : Fin 4096) (n : Fin 384) (i : Fin 16) :
    k0_pay9 (k0_pay7 w a) (k0_pay8 w a) r (ix4 b c n i) = byteRef (k0_pay6 w a (ix4 b c n i)) (r (ix3 b c ⟨n.val * 16 + i.val, by omega⟩)) := by
  unfold byteRef
  rw [← pay7_apply]
  pointwise [k0_pay9, k0_pay8]
  rfl

/-- A shift left by four. -/
theorem shl_four (x : BitVec 8) : IntOp.shli .vector x 4#8 = x <<< 4 := rfl

/-- The sign bit joined where the weight is negative and the index is not nought. -/
theorem sel_code (y : EReal) (r : BitVec 8) : Scalar.select (IntOp.andi (BitVec.ofBool (decide (y < 0))) (IntOp.cmpi .ugt (byteRef y r) 0#8))
    (IntOp.ori (byteRef y r) 8#8) (byteRef y r) = nibRef y r := by
  unfold nibRef
  generalize byteRef y r = x
  unfold IntOp.cmpi IntOp.andi IntOp.ori Scalar.select
  simp only [BitVec.ult_eq_decide_lt]
  by_cases h1 : y < 0 <;> by_cases h2 : 0#8 < x <;> simp [h1, h2]

/-- The packed codes at an index. -/
theorem code_apply (w : Vec Ideal S4x4096x6144 .f32) (a : Vec Ideal S1x1 .f32)  (r : Vec Ideal S4x4096x6144 .i8) (b : Fin 4) (c : Fin 4096) (p : Fin 3072) :
    k0_pay1 (k0_pay9 (k0_pay7 w a) (k0_pay8 w a) r) (k0_pay10 (k0_pay6 w a)) (k0_pay11 (k0_pay7 w a) (k0_pay8 w a) r) (ix3 b c p)
      = nibRef (k0_pay6 w a (ix4 b c ⟨p.val / 8, by omega⟩ ⟨p.val % 8 * 2, by omega⟩)) (r (ix3 b c ⟨p.val / 8 * 16 + p.val % 8 * 2, by omega⟩))
        ||| (nibRef (k0_pay6 w a (ix4 b c ⟨p.val / 8, by omega⟩ ⟨p.val % 8 * 2 + 1, by omega⟩)) (r (ix3 b c ⟨p.val / 8 * 16 + (p.val % 8 * 2 + 1), by omega⟩)) <<< 4) := by
  pointwise [k0_pay1, k0_pay10, k0_pay11]
  rw [pay9_apply, pay9_apply, sel_code, sel_code, shl_four]
  rfl

end Cert.ReferenceIdeal.Point

end
-- ==== Proof.Ref.Host.lean ====
/- The transformed weights the reference's host operations leave, at an index. -/
module

public import proofs.«01_k».proof.Proof.Gen.ReferenceIdeal.Frame
public import proofs.«01_k».proof.Proof.Math.Result
public import Idealize.ShloMosaic.Lib.Claim

@[expose] public section

set_option maxRecDepth 16384

noncomputable section

namespace Cert.ReferenceIdeal.Point

open Idealize.ShloMosaic Idealize.ShloMosaic.Tactic Idealize.ShloMosaic.Pointwise Idealize.ShloMosaic.TcCoe
open Cert.ReferenceIdeal.Gen Cert.Quant
open scoped BigOperators

variable (m : (ℓ : Loc nD τ sig) → Buf (Elt Ideal) ℓ)

/-- The parity the host counts, one bit at a time. -/
theorem par_host (i j : Fin 16) : (IntOp.andi
    (IntOp.addi (IntOp.addi (IntOp.addi (IntOp.andi (IntOp.andi (BitVec.ofNat 32 i.val) (BitVec.ofNat 32 j.val)) 1#32)
      (IntOp.andi (IntOp.shrsi ArithUnit.host (IntOp.andi (BitVec.ofNat 32 i.val) (BitVec.ofNat 32 j.val)) 1#32) 1#32))
      (IntOp.andi (IntOp.shrsi ArithUnit.host (IntOp.andi (BitVec.ofNat 32 i.val) (BitVec.ofNat 32 j.val)) 2#32) 1#32))
      (IntOp.andi (IntOp.shrsi ArithUnit.host (IntOp.andi (BitVec.ofNat 32 i.val) (BitVec.ofNat 32 j.val)) 3#32) 1#32)) 1#32).toInt = (par i.val j.val : ℤ) := by
  revert i j
  decide +kernel

/-- A word as a float is its integer. -/
theorem sitofp_int (x : BitVec 32) (k : Nat) (h : x.toInt = (k : ℤ)) : FloatOps.sitofp (F := Ideal) .f32 x = ((k : ℝ) : EReal) := by
  show (((x.toInt : ℤ) : ℝ) : EReal) = _
  rw [h, Int.cast_natCast]

/-- The weights' array at an index. -/
theorem w_apply (c : Dev nD) (b : Fin 4) (ch : Fin 4096) (n : Fin 384) (i : Fin 16) :
    (V m c main_v40 : Vec Ideal S4x4096x6144 .f32) (ix3 b ch ⟨n.val * 16 + i.val, by omega⟩)
      = wt (fun b t ch => (m ((c : Thread nD τ).loc main_arg0) : Vec Ideal S4x6144x4096 .bf16) (ix3 b t ch))
          (fun j => (m ((c : Thread nD τ).loc main_arg1) : Vec Ideal S16 .f32) (ix1 j)) b ch n i := by
  entry_read
  pointwise [wt, had]
  refine Finset.sum_congr (M := EReal) rfl fun j _ => ?_
  rw [sitofp_int _ _ (par_host i j)]

/-- The scalar argument's array at its one index. -/
theorem a_apply (c : Dev nD) : (V m c main_v41 : Vec Ideal S1x1 .f32) (ix2 0 0) = (m ((c : Thread nD τ).loc main_arg3) : Vec Ideal S_ .f32) ix0 := by
  entry_read
  pointwise

end Cert.ReferenceIdeal.Point

end
-- ==== Proof.Ref.Arrays.lean ====
/- The four result arrays the reference leaves, as functions of the arguments. -/
module

public import proofs.«01_k».proof.Proof.Ref.Point
public import proofs.«01_k».proof.Proof.Ref.Host
public import Idealize.ShloMosaic.Lib.Claim
public import Idealize.ShloMosaic.Lib.Pipeline.ValueKit

@[expose] public section

set_option maxRecDepth 16384

noncomputable section

namespace Cert.ReferenceIdeal.Point

open Idealize.ShloMosaic Idealize.ShloMosaic.Tactic Idealize.ShloMosaic.Pointwise Idealize.ShloMosaic.TcCoe Idealize.SL.Sem
open Cert.ReferenceIdeal.Gen Cert.Quant
open scoped BigOperators

variable (m : (ℓ : Loc nD τ sig) → Buf (Elt Ideal) ℓ)

/-- The argument x, coordinate by coordinate. -/
def argX (c : Dev nD) (b : Fin 4) (t : Fin 6144) (ch : Fin 4096) : EReal :=
  (m ((c : Thread nD τ).loc main_arg0) : Vec Ideal S4x6144x4096 .bf16) (ix3 b t ch)
/-- The argument of sixteen signs. -/
def argG (c : Dev nD) (j : Fin 16) : EReal := (m ((c : Thread nD τ).loc main_arg1) : Vec Ideal S16 .f32) (ix1 j)
/-- The argument of random bytes. -/
def argR (c : Dev nD) (b : Fin 4) (ch : Fin 4096) (t : Fin 6144) : BitVec 8 :=
  (m ((c : Thread nD τ).loc main_arg2) : Vec Ideal S4x4096x6144 .i8) (ix3 b ch t)
/-- The argument of the earlier maximum. -/
def argA (c : Dev nD) : EReal := (m ((c : Thread nD τ).loc main_arg3) : Vec Ideal S_ .f32) ix0

/-- The block indices of the windows that are read. -/
theorem idx_in : ∀ t : Fin cfg0.N, win0_0.index t = ![0, 0, 0] ∧ win0_1.index t = ![0, 0, 0] ∧ win0_2.index t = ![0, 0] :=
  (by decide +kernel : ∀ t : Fin grid0.N, _)

/-- Three zero offsets are the zero function. -/
theorem zero3 : (![0, 0, 0] : Fin 3 → Nat) = fun _ => 0 := by decide
/-- Two zero offsets are the zero function. -/
theorem zero2 : (![0, 0] : Fin 2 → Nat) = fun _ => 0 := by decide

/-- The transformed weights, read in the arguments. -/
theorem w_read (c : Dev nD) (b : Fin 4) (ch : Fin 4096) (n : Fin 384) (i : Fin 16) :
    (iblk m c 0 t0_0 : Vec Ideal S4x4096x6144 .f32) (ix3 b ch ⟨n.val * 16 + i.val, by omega⟩) = wt (argX m c) (argG m c) b ch n i := by
  refine Eq.trans ?_ (w_apply m c b ch n i)
  blk_ext [iblk, idx_in t0_0]

/-- The random bytes, read in the argument. -/
theorem r_read (c : Dev nD) (b : Fin 4) (ch : Fin 4096) (t : Fin 6144) :
    (iblk m c 1 t0_0 : Vec Ideal S4x4096x6144 .i8) (ix3 b ch t) = argR m c b ch t := by
  unfold argR
  blk_ext [iblk, V, idx_in t0_0]

/-- The earlier maximum, read in the argument. -/
theorem a_read (c : Dev nD) : (iblk m c 2 t0_0 : Vec Ideal S1x1 .f32) (ix2 0 0) = argA m c := by
  refine Eq.trans ?_ (a_apply m c)
  blk_ext [iblk, idx_in t0_0]

/-- An index of rank three, by its coordinates. -/
theorem idx_384 (y : S4x4096x384.Idx) : ∃ (b : Fin 4) (c : Fin 4096) (n : Fin 384), y = ix3 b c n := by
  refine ⟨y 0, y 1, y 2, ?_⟩
  funext a
  match a with
  | ⟨0, _⟩ => rfl
  | ⟨1, _⟩ => rfl
  | ⟨2, _⟩ => rfl

/-- An index of the codes, by its coordinates. -/
theorem idx_3072 (y : S4x4096x3072.Idx) : ∃ (b : Fin 4) (c : Fin 4096) (p : Fin 3072), y = ix3 b c p := by
  refine ⟨y 0, y 1, y 2, ?_⟩
  funext a
  match a with
  | ⟨0, _⟩ => rfl
  | ⟨1, _⟩ => rfl
  | ⟨2, _⟩ => rfl

/-- The load of the weights reads their whole block. -/
theorem ld_0 (c : Dev nD) : View.ld (iblk m c 0 t0_0) r0_0 = iblk m c 0 t0_0 := View.ld_unit_zero zero3 _ _
/-- The load of the random bytes reads their whole block. -/
theorem ld_1 (c : Dev nD) : View.ld (iblk m c 1 t0_0) r0_0 = iblk m c 1 t0_0 := View.ld_unit_zero zero3 _ _
/-- The load of the earlier maximum reads its whole block. -/
theorem ld_2 (c : Dev nD) : View.ld (iblk m c 2 t0_0) r0_1 = iblk m c 2 t0_0 := View.ld_unit_zero zero2 _ _

/-- The block maxima, read in the arguments. -/
theorem amax_read (c : Dev nD) (b : Fin 4) (ch : Fin 4096) (n : Fin 384) :
    k0_pay4 (iblk m c 0 t0_0 : Vec Ideal S4x4096x6144 .f32) (ix3 b ch n) = resAmax (argX m c) (argG m c) b ch n := by
  rw [pay4_apply]
  unfold resAmax
  simp only [w_read]

/-- The block scales, read in the arguments. -/
theorem sb_read (c : Dev nD) (b : Fin 4) (ch : Fin 4096) (n : Fin 384) :
    k0_pay5 (iblk m c 0 t0_0 : Vec Ideal S4x4096x6144 .f32) (iblk m c 2 t0_0 : Vec Ideal S1x1 .f32) (ix3 b ch n)
      = resSb (argX m c) (argG m c) (argA m c) b ch n := by
  rw [pay5_apply, amax_read, a_read]
  rfl

/-- The code of one weight, read in the arguments. -/
theorem nib_read (c : Dev nD) (b : Fin 4) (ch : Fin 4096) (n : Fin 384) (i : Fin 16) :
    nibRef (k0_pay6 (iblk m c 0 t0_0 : Vec Ideal S4x4096x6144 .f32) (iblk m c 2 t0_0 : Vec Ideal S1x1 .f32) (ix4 b ch n i))
        ((iblk m c 1 t0_0 : Vec Ideal S4x4096x6144 .i8) (ix3 b ch ⟨n.val * 16 + i.val, by omega⟩))
      = resNib (argX m c) (argG m c) (argR m c) (argA m c) b ch n i := by
  rw [pay6_apply, w_read, sb_read, pay2_apply, a_read, r_read]
  rfl

/-- The block maxima the reference leaves. -/
theorem arr3 (c : Dev nD) : ((dats m 0 c).arrAt 3 cfg0.N : Vec Ideal S4x4096x384 .f32)
    = fun i => resAmax (argX m c) (argG m c) (i 0) (i 1) (i 2) := by
  refine (dats m 0 c).arrAt_eq_of_after_last 3 t0_0 (by decide +kernel) _ fun j => ?_
  blk_simp
  rw [after0_3]
  unfold_out out0_3
  obtain ⟨b, ch, n, rfl⟩ := idx_384 j
  rw [ld_0]
  refine (congrFun (View.canon_unit_zero zero3 _ _) _).trans ?_
  exact amax_read m c b ch n

/-- The codes the reference leaves. -/
theorem arr4 (c : Dev nD) : ((dats m 0 c).arrAt 4 cfg0.N : Vec Ideal S4x4096x3072 .i8)
    = fun i => resCode (argX m c) (argG m c) (argR m c) (argA m c) (i 0) (i 1) (i 2) := by
  refine (dats m 0 c).arrAt_eq_of_after_last 4 t0_0 (by decide +kernel) _ fun j => ?_
  blk_simp
  rw [after0_4]
  unfold_out out0_4
  obtain ⟨b, ch, p, rfl⟩ := idx_3072 j
  simp only [ld_0, ld_1, ld_2]
  refine (congrFun (View.canon_unit_zero zero3 _ _) _).trans ?_
  refine (code_apply _ _ _ b ch p).trans ?_
  show _ = resCode (argX m c) (argG m c) (argR m c) (argA m c) b ch p
  unfold resCode
  rw [← nib_read, ← nib_read]

/-- The block scales the reference leaves. -/
theorem arr5 (c : Dev nD) : ((dats m 0 c).arrAt 5 cfg0.N : Vec Ideal S4x4096x384 .fp8e4m3)
    = fun i => resSb (argX m c) (argG m c) (argA m c) (i 0) (i 1) (i 2) := by
  refine (dats m 0 c).arrAt_eq_of_after_last 5 t0_0 (by decide +kernel) _ fun j => ?_
  blk_simp
  rw [after0_5]
  unfold_out out0_5
  obtain ⟨b, ch, n, rfl⟩ := idx_384 j
  rw [ld_0, ld_2]
  refine (congrFun (View.canon_unit_zero zero3 _ _) _).trans ?_
  exact sb_read m c b ch n

/-- The tensor scale the reference leaves. -/
theorem arr6 (c : Dev nD) : ((dats m 0 c).arrAt 6 cfg0.N : Vec Ideal S1x1 .f32) = fun _ => tsOf (argA m c) := by
  refine (dats m 0 c).arrAt_eq_of_after_last 6 t0_0 (by decide +kernel) _ fun j => ?_
  blk_simp
  rw [after0_6]
  unfold_out out0_6
  rw [ld_2]
  refine (congrFun (View.canon_unit_zero zero2 _ _) _).trans ?_
  have e : (j : S1x1.Idx) = ix2 0 0 := by
    funext a
    match a with
    | ⟨0, _⟩ => exact Subsingleton.elim (α := Fin 1) _ _
    | ⟨1, _⟩ => exact Subsingleton.elim (α := Fin 1) _ _
  rw [e, ← a_read]
  exact pay2_apply _

/-- A run of the reference: the four results as functions of the arguments, and the arguments unchanged. -/
theorem run_arrays (g : Dev nD → PrngReg) :
    θ_run (defs (F := Ideal)) (onTc (τ := τ) (main (F := Ideal))) ⟨m, fun _ => 0, g⟩ (fun r => ∀ c : Dev nD,
      r.2.mem ((c.tc : Thread nD τ).loc main_v42_0) = (fun i => resAmax (argX m c) (argG m c) (i 0) (i 1) (i 2) : Vec Ideal S4x4096x384 .f32)
      ∧ r.2.mem ((c.tc : Thread nD τ).loc main_v42_1) = (fun i => resCode (argX m c) (argG m c) (argR m c) (argA m c) (i 0) (i 1) (i 2) : Vec Ideal S4x4096x3072 .i8)
      ∧ r.2.mem ((c.tc : Thread nD τ).loc main_v42_2) = (fun i => resSb (argX m c) (argG m c) (argA m c) (i 0) (i 1) (i 2) : Vec Ideal S4x4096x384 .fp8e4m3)
      ∧ r.2.mem ((c.tc : Thread nD τ).loc main_v42_3) = (fun _ => tsOf (argA m c) : Vec Ideal S1x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨((h.1 c).1 3).trans (arr3 m c), ((h.1 c).1 4).trans (arr4 m c), ((h.1 c).1 5).trans (arr5 m c), ((h.1 c).1 6).trans (arr6 m c), h.2 c⟩)
    (θ_run_and (run_main m g) (unchanged m g))

end Cert.ReferenceIdeal.Point

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_range
public import proofs.«01_k».proof.Proof.Live.Arrays
public import proofs.«01_k».proof.Proof.Bits.Frame
public import proofs.«01_k».proof.Proof.Ref.Arrays
public import Idealize.ShloMosaic.Adequacy
public import Idealize.ShloMosaic.Init

@[expose] public section

noncomputable section

namespace Cert.Proof

open Idealize.ShloMosaic Idealize.SL.Sem Cert.Kernel

/-- The pattern of plus infinity. -/
theorem posInf : Ideal.ofBits .f32 0x7F800000#32 = (⊤ : EReal) := by
  simp [Ideal.ofBits, Ideal.ieee]

/-- Under the precondition the earlier maximum is not plus infinity. -/
theorem lt_top [Cert.Pre_finite_range.Facts] (m : (ℓ : Loc Cert.KernelIdeal.nD Cert.KernelIdeal.τ Cert.KernelIdeal.sig) → Buf (Elt Ideal) ℓ)
    (h : Cert.Pre_KernelIdeal_finite_range m) (c : Dev Cert.KernelIdeal.nD) : Cert.KernelIdeal.Live.argA m c < ⊤ := by
  have e := congrFun (h c) ix0
  by_contra hn
  have hz : (Cert.Pre_finite_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) ix0
      = BitVec.ofBool (decide (Cert.KernelIdeal.Live.argA m c < Ideal.ofBits .f32 0x7F800000#32)) := rfl
  rw [posInf, decide_eq_false hn] at hz
  rw [hz] at e
  exact absurd e (by decide)

/-- From memories that agree on the arguments both programs leave the same four results. -/
theorem value [Cert.Pre_finite_range.Facts] :
    Cert.algebraic_KernelIdeal_ReferenceIdeal_pre_finite_range (hKernelIdeal := Cert.KernelIdeal.Gen.facts) (hReferenceIdeal := Cert.ReferenceIdeal.Gen.facts) := by
  intro m g m' g' hp hm
  have hX : ∀ c, Cert.ReferenceIdeal.Point.argX m' c = Cert.KernelIdeal.Live.argX m c := fun c =>
    funext fun b => funext fun t => funext fun ch => congrFun (hm c).1 (ix3 b t ch)
  have hG : ∀ c, Cert.ReferenceIdeal.Point.argG m' c = Cert.KernelIdeal.Live.argG m c := fun c =>
    funext fun j => congrFun (hm c).2.1 (ix1 j)
  have hR : ∀ c, Cert.ReferenceIdeal.Point.argR m' c = Cert.KernelIdeal.Live.argR m c := fun c =>
    funext fun b => funext fun ch => funext fun t => congrFun (hm c).2.2.1 (ix3 b ch t)
  have hA : ∀ c, Cert.ReferenceIdeal.Point.argA m' c = Cert.KernelIdeal.Live.argA m c := fun c =>
    congrFun (hm c).2.2.2 ix0
  refine ⟨_, _, _, _, Cert.KernelIdeal.Live.run_arrays m g (lt_top m hp), ?_⟩
  have hr := Cert.ReferenceIdeal.Point.run_arrays m' g'
  simp only [hX, hG, hR, hA] at hr
  exact hr

/-- All the claims of this directory. -/
theorem claim : Cert.Claim := ⟨Cert.Kernel.Gen.facts, Cert.KernelIdeal.Gen.facts, Cert.ReferenceIdeal.Gen.facts, Cert.Pre_finite_range.Gen.facts,
  fun m ρ _ => Cert.Kernel.Live.frame m ρ, fun m ρ _ => Cert.KernelIdeal.Live.frame m ρ, fun m ρ _ => Cert.KernelIdeal.Live.frame m ρ,
  fun m ρ _ => Cert.ReferenceIdeal.Gen.frame m ρ, fun m ρ _ => Cert.ReferenceIdeal.Gen.frame m ρ, trivial,
  @value Cert.Pre_finite_range.Gen.facts⟩

end Cert.Proof

end
